-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_GuardedIdeal (m : (ℓ : Loc Cert.GuardedIdeal.nD Cert.GuardedIdeal.τ Cert.GuardedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_GuardedIdeal [hGuardedIdeal : Cert.GuardedIdeal.Facts] : Prop :=
  ∀ (m : (ℓ : Loc Cert.GuardedIdeal.nD Cert.GuardedIdeal.τ Cert.GuardedIdeal.sig) → Buf (Elt Ideal) ℓ) (g : Dev Cert.GuardedIdeal.nD → PrngReg), Pre_GuardedIdeal m →
    θ_run (Cert.GuardedIdeal.defs (F := Ideal)) (onTc (τ := Cert.GuardedIdeal.τ) (Cert.GuardedIdeal.main (F := Ideal))) ⟨m, fun _ => 0, g⟩ (fun r => (∀ c : Dev Cert.GuardedIdeal.nD,
      r.2.mem ((c.tc : Thread Cert.GuardedIdeal.nD Cert.GuardedIdeal.τ).loc Cert.GuardedIdeal.main_arg0) = m ((c.tc : Thread Cert.GuardedIdeal.nD Cert.GuardedIdeal.τ).loc Cert.GuardedIdeal.main_arg0)
      ∧ r.2.mem ((c.tc : Thread Cert.GuardedIdeal.nD Cert.GuardedIdeal.τ).loc Cert.GuardedIdeal.main_arg1) = m ((c.tc : Thread Cert.GuardedIdeal.nD Cert.GuardedIdeal.τ).loc Cert.GuardedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_GuardedIdeal_on_within [hKernelIdeal : Cert.KernelIdeal.Facts] [hGuardedIdeal : Cert.GuardedIdeal.Facts] [hOn_within : Cert.On_within.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.GuardedIdeal.nD Cert.GuardedIdeal.τ Cert.GuardedIdeal.sig) → Buf (Elt Ideal) ℓ) (g' : Dev Cert.GuardedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.GuardedIdeal.nD).tc : Thread Cert.GuardedIdeal.nD Cert.GuardedIdeal.τ).loc Cert.GuardedIdeal.main_arg0))
      ∧ m ((c.tc : Thread Cert.KernelIdeal.nD Cert.KernelIdeal.τ).loc Cert.KernelIdeal.main_arg1) = m' (((0 : Dev Cert.GuardedIdeal.nD).tc : Thread Cert.GuardedIdeal.nD Cert.GuardedIdeal.τ).loc Cert.GuardedIdeal.main_arg1)) →
    ∃ (v0 : Buf (Elt Ideal) (((0 : Dev Cert.GuardedIdeal.nD).tc : Thread Cert.GuardedIdeal.nD Cert.GuardedIdeal.τ).loc Cert.GuardedIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 1024]⟩ : Shape).Idx, (Layout.block ⟨2, ![4096, 1024]⟩ ⟨2, ![4096, 8192]⟩ 1 8 c ((Cert.On_within.fn (F := Ideal) (m' (((0 : Dev Cert.GuardedIdeal.nD).tc : Thread Cert.GuardedIdeal.nD Cert.GuardedIdeal.τ).loc Cert.GuardedIdeal.main_arg0)) (m' (((0 : Dev Cert.GuardedIdeal.nD).tc : Thread Cert.GuardedIdeal.nD Cert.GuardedIdeal.τ).loc Cert.GuardedIdeal.main_arg1)))) : (⟨2, ![4096, 1024]⟩ : Shape).Idx → _) i = 1#1 → r.2.mem ((c.tc : Thread Cert.KernelIdeal.nD Cert.KernelIdeal.τ).loc Cert.KernelIdeal.main_v1) i = (Layout.block ⟨2, ![4096, 1024]⟩ ⟨2, ![4096, 8192]⟩ 1 8 c v0 : (⟨2, ![4096, 1024]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.GuardedIdeal.defs (F := Ideal)) (onTc (τ := Cert.GuardedIdeal.τ) (Cert.GuardedIdeal.main (F := Ideal))) ⟨m', fun _ => 0, g'⟩ (fun r =>
          (∀ i : (⟨2, ![4096, 8192]⟩ : Shape).Idx, (Cert.On_within.fn (F := Ideal) (m' (((0 : Dev Cert.GuardedIdeal.nD).tc : Thread Cert.GuardedIdeal.nD Cert.GuardedIdeal.τ).loc Cert.GuardedIdeal.main_arg0)) (m' (((0 : Dev Cert.GuardedIdeal.nD).tc : Thread Cert.GuardedIdeal.nD Cert.GuardedIdeal.τ).loc Cert.GuardedIdeal.main_arg1))) i = 1#1 → r.2.mem (((0 : Dev Cert.GuardedIdeal.nD).tc : Thread Cert.GuardedIdeal.nD Cert.GuardedIdeal.τ).loc Cert.GuardedIdeal.main_v7) i = v0 i)
          ∧ r.2.mem (((0 : Dev Cert.GuardedIdeal.nD).tc : Thread Cert.GuardedIdeal.nD Cert.GuardedIdeal.τ).loc Cert.GuardedIdeal.main_arg0) = m' (((0 : Dev Cert.GuardedIdeal.nD).tc : Thread Cert.GuardedIdeal.nD Cert.GuardedIdeal.τ).loc Cert.GuardedIdeal.main_arg0)
          ∧ r.2.mem (((0 : Dev Cert.GuardedIdeal.nD).tc : Thread Cert.GuardedIdeal.nD Cert.GuardedIdeal.τ).loc Cert.GuardedIdeal.main_arg1) = m' (((0 : Dev Cert.GuardedIdeal.nD).tc : Thread Cert.GuardedIdeal.nD Cert.GuardedIdeal.τ).loc Cert.GuardedIdeal.main_arg1))

def Claim : Prop :=
  ∃ (hKernel : Cert.Kernel.Facts) (hKernelIdeal : Cert.KernelIdeal.Facts) (hReferenceIdeal : Cert.ReferenceIdeal.Facts) (hGuardedIdeal : Cert.GuardedIdeal.Facts) (hOn_within : Cert.On_within.Facts),
    quiescent_Kernel (hKernel := hKernel)
    ∧ quiescent_KernelIdeal (hKernelIdeal := hKernelIdeal)
    ∧ quiescent_ReferenceIdeal (hReferenceIdeal := hReferenceIdeal)
    ∧ quiescent_GuardedIdeal (hGuardedIdeal := hGuardedIdeal)
    ∧ preserves_Kernel_KernelIdeal
    ∧ algebraic_KernelIdeal_ReferenceIdeal (hKernelIdeal := hKernelIdeal) (hReferenceIdeal := hReferenceIdeal)
    ∧ algebraic_KernelIdeal_GuardedIdeal_on_within (hKernelIdeal := hKernelIdeal) (hGuardedIdeal := hGuardedIdeal) (hOn_within := hOn_within)
-- ==== On_within.lean ====
abbrev S4096x4096 : Shape := ⟨2, ![4096, 4096]⟩
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : FVec F S4096x4096 .f32) (main_arg1 : FVec F S4096x8192 .f32) : IVec S4096x8192 1 :=
  let main_v0 : FVec F S4096x8192 .f32 := (fun l r => Host.dotGeneral dot_S4096x4096_S4096x8192_S4096x8192_1_0_0_1_n_n none l r) main_arg0 main_arg1
  let main_cst : FVec F S_ .f32 := constant S_ .f32 0xC2700000#32
  let main_v1 : FVec F S4096x8192 .f32 := broadcastInDim S4096x8192 ![] bcast_S_S4096x8192 main_cst
  let main_v2 : IVec S4096x8192 1 := cmpf .oge main_v0 main_v1
  let main_cst_0 : FVec F S_ .f32 := constant S_ .f32 0x42700000#32
  let main_v3 : FVec F S4096x8192 .f32 := broadcastInDim S4096x8192 ![] bcast_S_S4096x8192 main_cst_0
  let main_v4 : IVec S4096x8192 1 := cmpf .ole main_v0 main_v3
  let main_v5 : IVec S4096x8192 1 := andi main_v2 main_v4
  main_v5
-- ==== Kernel.lean ====
abbrev S512x4096 : Shape := ⟨2, ![512, 4096]⟩
abbrev S4096x8192 : Shape := ⟨2, ![4096, 8192]⟩
abbrev S4096x1024 : Shape := ⟨2, ![4096, 1024]⟩
abbrev S2x4096x1024 : Shape := ⟨3, ![2, 4096, 1024]⟩
abbrev S2 : Shape := ⟨1, ![2]⟩
abbrev S7x512x1024 : Shape := ⟨3, ![7, 512, 1024]⟩
abbrev S7 : Shape := ⟨1, ![7]⟩
abbrev S1 : Shape := ⟨1, ![1]⟩
abbrev S_ : Shape := ⟨0, ![]⟩
abbrev S1x4096x1024 : Shape := ⟨3, ![1, 4096, 1024]⟩
abbrev S512x1024 : Shape := ⟨2, ![512, 1024]⟩
abbrev S1x512x1024 : Shape := ⟨3, ![1, 512, 1024]⟩

abbrev nBuf : Space → Nat
  | .hbm => 3
  | .vmem => 4
  | .smem => 0
  | _ => 0

abbrev bufTy : (tb : Table) → Fin (tcTables nBuf tb) → BufTy
  | .hbm, ⟨0, _⟩ => ⟨S512x4096, .f32⟩
  | .hbm, ⟨1, _⟩ => ⟨S4096x8192, .f32⟩
  | .hbm, ⟨2, _⟩ => ⟨S4096x1024, .bf16⟩
  | .local _ .vmem, ⟨0, _⟩ => ⟨S512x4096, .f32⟩
  | .local _ .vmem, ⟨1, _⟩ => ⟨S4096x1024, .bf16⟩
  | .local _ .vmem, ⟨2, _⟩ => ⟨S2x4096x1024, .f32⟩
  | .local _ .vmem, ⟨3, _⟩ => ⟨S7x512x1024, .bf16⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch2 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 2 → Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let v5 : BitVec 32 := Scalar.addi v4 c0_i32
  let c8_i32_1 : BitVec 32 := 8#32
  let c0_i32_2 : BitVec 32 := 0#32
  let v6 : BitVec 1 := Scalar.cmpi .eq c8_i32_1 c0_i32_2
  let c1_i32_3 : BitVec 32 := 1#32
  let v7 : BitVec 32 := Scalar.select v6 c1_i32_3 c8_i32_1
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c1024_i32 : BitVec 32 := 1024#32
  let v16 : BitVec 32 := Scalar.muli v15 c1024_i32
  ![0, v16.toNat]
def k0_dev1 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_26 : BitVec 32 := 1#32
  let v41 : BitVec 32 := Scalar.addi v2 c1_i32_26
  let c8_i32_27 : BitVec 32 := 8#32
  let c0_i32_28 : BitVec 32 := 0#32
  let v42 : BitVec 1 := Scalar.cmpi .eq c8_i32_27 c0_i32_28
  let c1_i32_29 : BitVec 32 := 1#32
  let v43 : BitVec 32 := Scalar.select v42 c1_i32_29 c8_i32_27
  let v44 : BitVec 32 := Scalar.remsi v41 v43
  let c0_i32_31 : BitVec 32 := 0#32
  let v46 : BitVec 1 := Scalar.cmpi .slt v44 c0_i32_31
  let c0_i32_32 : BitVec 32 := 0#32
  let v47 : BitVec 1 := Scalar.cmpi .slt v43 c0_i32_32
  let v48 : BitVec 1 := Scalar.xori v46 v47
  let c0_i32_30 : BitVec 32 := 0#32
  let v45 : BitVec 1 := Scalar.cmpi .ne v44 c0_i32_30
  let v49 : BitVec 1 := Scalar.andi v48 v45
  let v50 : BitVec 32 := Scalar.addi v44 v43
  let v51 : BitVec 32 := Scalar.select v49 v50 v44
  let c1_i32_34 : BitVec 32 := 1#32
  let v52 : BitVec 32 := Scalar.muli v51 c1_i32_34
  let v53 : BitVec 32 := Scalar.addi c0_i32_35 v52
  v53.toNat
def k0_dev2 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v54 : BitVec 32 := Scalar.addi v2 c2_i32
  let c8_i32_36 : BitVec 32 := 8#32
  let c0_i32_37 : BitVec 32 := 0#32
  let v55 : BitVec 1 := Scalar.cmpi .eq c8_i32_36 c0_i32_37
  let c1_i32_38 : BitVec 32 := 1#32
  let v56 : BitVec 32 := Scalar.select v55 c1_i32_38 c8_i32_36
  let v57 : BitVec 32 := Scalar.remsi v54 v56
  let c0_i32_40 : BitVec 32 := 0#32
  let v59 : BitVec 1 := Scalar.cmpi .slt v57 c0_i32_40
  let c0_i32_41 : BitVec 32 := 0#32
  let v60 : BitVec 1 := Scalar.cmpi .slt v56 c0_i32_41
  let v61 : BitVec 1 := Scalar.xori v59 v60
  let c0_i32_39 : BitVec 32 := 0#32
  let v58 : BitVec 1 := Scalar.cmpi .ne v57 c0_i32_39
  let v62 : BitVec 1 := Scalar.andi v61 v58
  let v63 : BitVec 32 := Scalar.addi v57 v56
  let v64 : BitVec 32 := Scalar.select v62 v63 v57
  let c1_i32_43 : BitVec 32 := 1#32
  let v65 : BitVec 32 := Scalar.muli v64 c1_i32_43
  let v66 : BitVec 32 := Scalar.addi c0_i32_44 v65
  v66.toNat
def k0_dev3 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v67 : BitVec 32 := Scalar.addi v2 c3_i32
  let c8_i32_45 : BitVec 32 := 8#32
  let c0_i32_46 : BitVec 32 := 0#32
  let v68 : BitVec 1 := Scalar.cmpi .eq c8_i32_45 c0_i32_46
  let c1_i32_47 : BitVec 32 := 1#32
  let v69 : BitVec 32 := Scalar.select v68 c1_i32_47 c8_i32_45
  let v70 : BitVec 32 := Scalar.remsi v67 v69
  let c0_i32_49 : BitVec 32 := 0#32
  let v72 : BitVec 1 := Scalar.cmpi .slt v70 c0_i32_49
  let c0_i32_50 : BitVec 32 := 0#32
  let v73 : BitVec 1 := Scalar.cmpi .slt v69 c0_i32_50
  let v74 : BitVec 1 := Scalar.xori v72 v73
  let c0_i32_48 : BitVec 32 := 0#32
  let v71 : BitVec 1 := Scalar.cmpi .ne v70 c0_i32_48
  let v75 : BitVec 1 := Scalar.andi v74 v71
  let v76 : BitVec 32 := Scalar.addi v70 v69
  let v77 : BitVec 32 := Scalar.select v75 v76 v70
  let c1_i32_52 : BitVec 32 := 1#32
  let v78 : BitVec 32 := Scalar.muli v77 c1_i32_52
  let v79 : BitVec 32 := Scalar.addi c0_i32_53 v78
  v79.toNat
def k0_dev4 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v80 : BitVec 32 := Scalar.addi v2 c4_i32
  let c8_i32_54 : BitVec 32 := 8#32
  let c0_i32_55 : BitVec 32 := 0#32
  let v81 : BitVec 1 := Scalar.cmpi .eq c8_i32_54 c0_i32_55
  let c1_i32_56 : BitVec 32 := 1#32
  let v82 : BitVec 32 := Scalar.select v81 c1_i32_56 c8_i32_54
  let v83 : BitVec 32 := Scalar.remsi v80 v82
  let c0_i32_58 : BitVec 32 := 0#32
  let v85 : BitVec 1 := Scalar.cmpi .slt v83 c0_i32_58
  let c0_i32_59 : BitVec 32 := 0#32
  let v86 : BitVec 1 := Scalar.cmpi .slt v82 c0_i32_59
  let v87 : BitVec 1 := Scalar.xori v85 v86
  let c0_i32_57 : BitVec 32 := 0#32
  let v84 : BitVec 1 := Scalar.cmpi .ne v83 c0_i32_57
  let v88 : BitVec 1 := Scalar.andi v87 v84
  let v89 : BitVec 32 := Scalar.addi v83 v82
  let v90 : BitVec 32 := Scalar.select v88 v89 v83
  let c1_i32_61 : BitVec 32 := 1#32
  let v91 : BitVec 32 := Scalar.muli v90 c1_i32_61
  let v92 : BitVec 32 := Scalar.addi c0_i32_62 v91
  v92.toNat
def k0_dev5 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v93 : BitVec 32 := Scalar.addi v2 c5_i32
  let c8_i32_63 : BitVec 32 := 8#32
  let c0_i32_64 : BitVec 32 := 0#32
  let v94 : BitVec 1 := Scalar.cmpi .eq c8_i32_63 c0_i32_64
  let c1_i32_65 : BitVec 32 := 1#32
  let v95 : BitVec 32 := Scalar.select v94 c1_i32_65 c8_i32_63
  let v96 : BitVec 32 := Scalar.remsi v93 v95
  let c0_i32_67 : BitVec 32 := 0#32
  let v98 : BitVec 1 := Scalar.cmpi .slt v96 c0_i32_67
  let c0_i32_68 : BitVec 32 := 0#32
  let v99 : BitVec 1 := Scalar.cmpi .slt v95 c0_i32_68
  let v100 : BitVec 1 := Scalar.xori v98 v99
  let c0_i32_66 : BitVec 32 := 0#32
  let v97 : BitVec 1 := Scalar.cmpi .ne v96 c0_i32_66
  let v101 : BitVec 1 := Scalar.andi v100 v97
  let v102 : BitVec 32 := Scalar.addi v96 v95
  let v103 : BitVec 32 := Scalar.select v101 v102 v96
  let c1_i32_70 : BitVec 32 := 1#32
  let v104 : BitVec 32 := Scalar.muli v103 c1_i32_70
  let v105 : BitVec 32 := Scalar.addi c0_i32_71 v104
  v105.toNat
def k0_dev6 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v106 : BitVec 32 := Scalar.addi v2 c6_i32
  let c8_i32_72 : BitVec 32 := 8#32
  let c0_i32_73 : BitVec 32 := 0#32
  let v107 : BitVec 1 := Scalar.cmpi .eq c8_i32_72 c0_i32_73
  let c1_i32_74 : BitVec 32 := 1#32
  let v108 : BitVec 32 := Scalar.select v107 c1_i32_74 c8_i32_72
  let v109 : BitVec 32 := Scalar.remsi v106 v108
  let c0_i32_76 : BitVec 32 := 0#32
  let v111 : BitVec 1 := Scalar.cmpi .slt v109 c0_i32_76
  let c0_i32_77 : BitVec 32 := 0#32
  let v112 : BitVec 1 := Scalar.cmpi .slt v108 c0_i32_77
  let v113 : BitVec 1 := Scalar.xori v111 v112
  let c0_i32_75 : BitVec 32 := 0#32
  let v110 : BitVec 1 := Scalar.cmpi .ne v109 c0_i32_75
  let v114 : BitVec 1 := Scalar.andi v113 v110
  let v115 : BitVec 32 := Scalar.addi v109 v108
  let v116 : BitVec 32 := Scalar.select v114 v115 v109
  let c1_i32_79 : BitVec 32 := 1#32
  let v117 : BitVec 32 := Scalar.muli v116 c1_i32_79
  let v118 : BitVec 32 := Scalar.addi c0_i32_80 v117
  v118.toNat
def k0_dev7 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v119 : BitVec 32 := Scalar.addi v2 c7_i32
  let c8_i32_81 : BitVec 32 := 8#32
  let c0_i32_82 : BitVec 32 := 0#32
  let v120 : BitVec 1 := Scalar.cmpi .eq c8_i32_81 c0_i32_82
  let c1_i32_83 : BitVec 32 := 1#32
  let v121 : BitVec 32 := Scalar.select v120 c1_i32_83 c8_i32_81
  let v122 : BitVec 32 := Scalar.remsi v119 v121
  let c0_i32_85 : BitVec 32 := 0#32
  let v124 : BitVec 1 := Scalar.cmpi .slt v122 c0_i32_85
  let c0_i32_86 : BitVec 32 := 0#32
  let v125 : BitVec 1 := Scalar.cmpi .slt v121 c0_i32_86
  let v126 : BitVec 1 := Scalar.xori v124 v125
  let c0_i32_84 : BitVec 32 := 0#32
  let v123 : BitVec 1 := Scalar.cmpi .ne v122 c0_i32_84
  let v127 : BitVec 1 := Scalar.andi v126 v123
  let v128 : BitVec 32 := Scalar.addi v122 v121
  let v129 : BitVec 32 := Scalar.select v127 v128 v122
  let c1_i32_88 : BitVec 32 := 1#32
  let v130 : BitVec 32 := Scalar.muli v129 c1_i32_88
  let v131 : BitVec 32 := Scalar.addi c0_i32_89 v130
  v131.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v3 : BitVec 32 := Scalar.muli v2 c512_i32
  let c0_i32_139 : BitVec 32 := 0#32
  ![v3.toNat, 0]
def k0_dev8 (d0 : Dev nD) : Nat :=
  let c0_i32_138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_126 : BitVec 32 := 1#32
  let v181 : BitVec 32 := Scalar.addi v2 c1_i32_126
  let c0_i32_127 : BitVec 32 := 0#32
  let v182 : BitVec 32 := Scalar.addi v181 c0_i32_127
  let c8_i32_128 : BitVec 32 := 8#32
  let c0_i32_129 : BitVec 32 := 0#32
  let v183 : BitVec 1 := Scalar.cmpi .eq c8_i32_128 c0_i32_129
  let c1_i32_130 : BitVec 32 := 1#32
  let v184 : BitVec 32 := Scalar.select v183 c1_i32_130 c8_i32_128
  let v185 : BitVec 32 := Scalar.remsi v182 v184
  let c0_i32_132 : BitVec 32 := 0#32
  let v187 : BitVec 1 := Scalar.cmpi .slt v185 c0_i32_132
  let c0_i32_133 : BitVec 32 := 0#32
  let v188 : BitVec 1 := Scalar.cmpi .slt v184 c0_i32_133
  let v189 : BitVec 1 := Scalar.xori v187 v188
  let c0_i32_131 : BitVec 32 := 0#32
  let v186 : BitVec 1 := Scalar.cmpi .ne v185 c0_i32_131
  let v190 : BitVec 1 := Scalar.andi v189 v186
  let v191 : BitVec 32 := Scalar.addi v185 v184
  let v192 : BitVec 32 := Scalar.select v190 v191 v185
  let c1_i32_137 : BitVec 32 := 1#32
  let v193 : BitVec 32 := Scalar.muli v192 c1_i32_137
  let v194 : BitVec 32 := Scalar.addi c0_i32_138 v193
  v194.toNat
def k0_dev9 (d0 : Dev nD) : Nat :=
  let c0_i32_188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_176 : BitVec 32 := 1#32
  let v248 : BitVec 32 := Scalar.addi v2 c1_i32_176
  let c1_i32_177 : BitVec 32 := 1#32
  let v249 : BitVec 32 := Scalar.addi v248 c1_i32_177
  let c8_i32_178 : BitVec 32 := 8#32
  let c0_i32_179 : BitVec 32 := 0#32
  let v250 : BitVec 1 := Scalar.cmpi .eq c8_i32_178 c0_i32_179
  let c1_i32_180 : BitVec 32 := 1#32
  let v251 : BitVec 32 := Scalar.select v250 c1_i32_180 c8_i32_178
  let v252 : BitVec 32 := Scalar.remsi v249 v251
  let c0_i32_182 : BitVec 32 := 0#32
  let v254 : BitVec 1 := Scalar.cmpi .slt v252 c0_i32_182
  let c0_i32_183 : BitVec 32 := 0#32
  let v255 : BitVec 1 := Scalar.cmpi .slt v251 c0_i32_183
  let v256 : BitVec 1 := Scalar.xori v254 v255
  let c0_i32_181 : BitVec 32 := 0#32
  let v253 : BitVec 1 := Scalar.cmpi .ne v252 c0_i32_181
  let v257 : BitVec 1 := Scalar.andi v256 v253
  let v258 : BitVec 32 := Scalar.addi v252 v251
  let v259 : BitVec 32 := Scalar.select v257 v258 v252
  let c1_i32_187 : BitVec 32 := 1#32
  let v260 : BitVec 32 := Scalar.muli v259 c1_i32_187
  let v261 : BitVec 32 := Scalar.addi c0_i32_188 v260
  v261.toNat
def k0_dev10 (d0 : Dev nD) : Nat :=
  let c0_i32_238 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_226 : BitVec 32 := 1#32
  let v315 : BitVec 32 := Scalar.addi v2 c1_i32_226
  let c2_i32_227 : BitVec 32 := 2#32
  let v316 : BitVec 32 := Scalar.addi v315 c2_i32_227
  let c8_i32_228 : BitVec 32 := 8#32
  let c0_i32_229 : BitVec 32 := 0#32
  let v317 : BitVec 1 := Scalar.cmpi .eq c8_i32_228 c0_i32_229
  let c1_i32_230 : BitVec 32 := 1#32
  let v318 : BitVec 32 := Scalar.select v317 c1_i32_230 c8_i32_228
  let v319 : BitVec 32 := Scalar.remsi v316 v318
  let c0_i32_232 : BitVec 32 := 0#32
  let v321 : BitVec 1 := Scalar.cmpi .slt v319 c0_i32_232
  let c0_i32_233 : BitVec 32 := 0#32
  let v322 : BitVec 1 := Scalar.cmpi .slt v318 c0_i32_233
  let v323 : BitVec 1 := Scalar.xori v321 v322
  let c0_i32_231 : BitVec 32 := 0#32
  let v320 : BitVec 1 := Scalar.cmpi .ne v319 c0_i32_231
  let v324 : BitVec 1 := Scalar.andi v323 v320
  let v325 : BitVec 32 := Scalar.addi v319 v318
  let v326 : BitVec 32 := Scalar.select v324 v325 v319
  let c1_i32_237 : BitVec 32 := 1#32
  let v327 : BitVec 32 := Scalar.muli v326 c1_i32_237
  let v328 : BitVec 32 := Scalar.addi c0_i32_238 v327
  v328.toNat
def k0_dev11 (d0 : Dev nD) : Nat :=
  let c0_i32_288 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_276 : BitVec 32 := 1#32
  let v382 : BitVec 32 := Scalar.addi v2 c1_i32_276
  let c3_i32_277 : BitVec 32 := 3#32
  let v383 : BitVec 32 := Scalar.addi v382 c3_i32_277
  let c8_i32_278 : BitVec 32 := 8#32
  let c0_i32_279 : BitVec 32 := 0#32
  let v384 : BitVec 1 := Scalar.cmpi .eq c8_i32_278 c0_i32_279
  let c1_i32_280 : BitVec 32 := 1#32
  let v385 : BitVec 32 := Scalar.select v384 c1_i32_280 c8_i32_278
  let v386 : BitVec 32 := Scalar.remsi v383 v385
  let c0_i32_282 : BitVec 32 := 0#32
  let v388 : BitVec 1 := Scalar.cmpi .slt v386 c0_i32_282
  let c0_i32_283 : BitVec 32 := 0#32
  let v389 : BitVec 1 := Scalar.cmpi .slt v385 c0_i32_283
  let v390 : BitVec 1 := Scalar.xori v388 v389
  let c0_i32_281 : BitVec 32 := 0#32
  let v387 : BitVec 1 := Scalar.cmpi .ne v386 c0_i32_281
  let v391 : BitVec 1 := Scalar.andi v390 v387
  let v392 : BitVec 32 := Scalar.addi v386 v385
  let v393 : BitVec 32 := Scalar.select v391 v392 v386
  let c1_i32_287 : BitVec 32 := 1#32
  let v394 : BitVec 32 := Scalar.muli v393 c1_i32_287
  let v395 : BitVec 32 := Scalar.addi c0_i32_288 v394
  v395.toNat
def k0_dev12 (d0 : Dev nD) : Nat :=
  let c0_i32_338 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_326 : BitVec 32 := 1#32
  let v449 : BitVec 32 := Scalar.addi v2 c1_i32_326
  let c4_i32_327 : BitVec 32 := 4#32
  let v450 : BitVec 32 := Scalar.addi v449 c4_i32_327
  let c8_i32_328 : BitVec 32 := 8#32
  let c0_i32_329 : BitVec 32 := 0#32
  let v451 : BitVec 1 := Scalar.cmpi .eq c8_i32_328 c0_i32_329
  let c1_i32_330 : BitVec 32 := 1#32
  let v452 : BitVec 32 := Scalar.select v451 c1_i32_330 c8_i32_328
  let v453 : BitVec 32 := Scalar.remsi v450 v452
  let c0_i32_332 : BitVec 32 := 0#32
  let v455 : BitVec 1 := Scalar.cmpi .slt v453 c0_i32_332
  let c0_i32_333 : BitVec 32 := 0#32
  let v456 : BitVec 1 := Scalar.cmpi .slt v452 c0_i32_333
  let v457 : BitVec 1 := Scalar.xori v455 v456
  let c0_i32_331 : BitVec 32 := 0#32
  let v454 : BitVec 1 := Scalar.cmpi .ne v453 c0_i32_331
  let v458 : BitVec 1 := Scalar.andi v457 v454
  let v459 : BitVec 32 := Scalar.addi v453 v452
  let v460 : BitVec 32 := Scalar.select v458 v459 v453
  let c1_i32_337 : BitVec 32 := 1#32
  let v461 : BitVec 32 := Scalar.muli v460 c1_i32_337
  let v462 : BitVec 32 := Scalar.addi c0_i32_338 v461
  v462.toNat
def k0_dev13 (d0 : Dev nD) : Nat :=
  let c0_i32_388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_376 : BitVec 32 := 1#32
  let v516 : BitVec 32 := Scalar.addi v2 c1_i32_376
  let c5_i32_377 : BitVec 32 := 5#32
  let v517 : BitVec 32 := Scalar.addi v516 c5_i32_377
  let c8_i32_378 : BitVec 32 := 8#32
  let c0_i32_379 : BitVec 32 := 0#32
  let v518 : BitVec 1 := Scalar.cmpi .eq c8_i32_378 c0_i32_379
  let c1_i32_380 : BitVec 32 := 1#32
  let v519 : BitVec 32 := Scalar.select v518 c1_i32_380 c8_i32_378
  let v520 : BitVec 32 := Scalar.remsi v517 v519
  let c0_i32_382 : BitVec 32 := 0#32
  let v522 : BitVec 1 := Scalar.cmpi .slt v520 c0_i32_382
  let c0_i32_383 : BitVec 32 := 0#32
  let v523 : BitVec 1 := Scalar.cmpi .slt v519 c0_i32_383
  let v524 : BitVec 1 := Scalar.xori v522 v523
  let c0_i32_381 : BitVec 32 := 0#32
  let v521 : BitVec 1 := Scalar.cmpi .ne v520 c0_i32_381
  let v525 : BitVec 1 := Scalar.andi v524 v521
  let v526 : BitVec 32 := Scalar.addi v520 v519
  let v527 : BitVec 32 := Scalar.select v525 v526 v520
  let c1_i32_387 : BitVec 32 := 1#32
  let v528 : BitVec 32 := Scalar.muli v527 c1_i32_387
  let v529 : BitVec 32 := Scalar.addi c0_i32_388 v528
  v529.toNat
def k0_dev14 (d0 : Dev nD) : Nat :=
  let c0_i32_424 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_412 : BitVec 32 := 1#32
  let v565 : BitVec 32 := Scalar.addi v2 c1_i32_412
  let c6_i32_413 : BitVec 32 := 6#32
  let v566 : BitVec 32 := Scalar.addi v565 c6_i32_413
  let c8_i32_414 : BitVec 32 := 8#32
  let c0_i32_415 : BitVec 32 := 0#32
  let v567 : BitVec 1 := Scalar.cmpi .eq c8_i32_414 c0_i32_415
  let c1_i32_416 : BitVec 32 := 1#32
  let v568 : BitVec 32 := Scalar.select v567 c1_i32_416 c8_i32_414
  let v569 : BitVec 32 := Scalar.remsi v566 v568
  let c0_i32_418 : BitVec 32 := 0#32
  let v571 : BitVec 1 := Scalar.cmpi .slt v569 c0_i32_418
  let c0_i32_419 : BitVec 32 := 0#32
  let v572 : BitVec 1 := Scalar.cmpi .slt v568 c0_i32_419
  let v573 : BitVec 1 := Scalar.xori v571 v572
  let c0_i32_417 : BitVec 32 := 0#32
  let v570 : BitVec 1 := Scalar.cmpi .ne v569 c0_i32_417
  let v574 : BitVec 1 := Scalar.andi v573 v570
  let v575 : BitVec 32 := Scalar.addi v569 v568
  let v576 : BitVec 32 := Scalar.select v574 v575 v569
  let c1_i32_423 : BitVec 32 := 1#32
  let v577 : BitVec 32 := Scalar.muli v576 c1_i32_423
  let v578 : BitVec 32 := Scalar.addi c0_i32_424 v577
  v578.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v3 : BitVec 32 := Scalar.muli v2 c512_i32
  let v611 : Index := Scalar.indexCast v3
  let c0_446 : Index := 0#32
  ![v611.toNat, 0]
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x8192, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GuardedIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x8192, .f32⟩
  | .hbm, ⟨17, _⟩ => ⟨S4096x8192, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Proof.Script.lean ====
/-
# The kernel's body, stated once per kind of step

The printed body runs eight steps one after the other. Here each kind of action is a definition over the step's number
(start the copy of a column block of the weight, wait for it and load it, signal a device, send a finished tile, wait for an
arrival, wait for a departure), and the body is their sequence. `body_eq` says that the printed body is this sequence.
-/
module

public import proofs.«01_k».proof.Proof.Gen.KernelIdeal
public import proofs.«01_k».proof.Proof.Gen.KernelIdeal.Skeleton

@[expose] public section

noncomputable section

namespace Cert.Exchange

open Cert.KernelIdeal Cert.KernelIdeal.Gen
open Idealize.ShloMosaic
open Idealize.ShloMosaic.TcCoe
open Idealize.SL.Sem

variable {F : FTy → Type} [FloatOps F]

/-! ## The buffers -/

/-- The device's rows of `x`, the whole weight, the device's columns of the result, the two halves the weight's column
    blocks are copied to, the seven slots the outgoing tiles wait in. -/
abbrev xM : Memref sig .tc .vmem S512x4096 .f32 := Memref.whole cc0_stg0_0
abbrev gM : Memref sig .tc .hbm S4096x8192 .f32 := Memref.whole main_arg1
abbrev oM : Memref sig .tc .vmem S4096x1024 .bf16 := Memref.whole cc0_stg1_0
abbrev wM : Memref sig .tc .vmem S2x4096x1024 .f32 := Memref.whole cc0_scratch0
abbrev yM : Memref sig .tc .vmem S7x512x1024 .bf16 := Memref.whole cc0_scratch2

theorem half_inb (b : Fin 2) : ∀ a, (![b.val, 0, 0] : Fin 3 → Nat) a + S1x4096x1024.size a ≤ S2x4096x1024.size a := by revert b; decide
theorem slot_inb (s : Fin 7) : ∀ a, (![s.val, 0, 0] : Fin 3 → Nat) a + S1x512x1024.size a ≤ S7x512x1024.size a := by revert s; decide
theorem sem2_inb (b : Fin 2) : ∀ a, (![b.val] : Fin 1 → Nat) a + S1.size a ≤ S2.size a := by revert b; decide
theorem sem7_inb (s : Fin 7) : ∀ a, (![s.val] : Fin 1 → Nat) a + S1.size a ≤ S7.size a := by revert s; decide
theorem slot_packed (s : Fin 7) : (Rect.unit (s := S7x512x1024) ![s.val, 0, 0] S1x512x1024.size (slot_inb s)).PackedRows (EltTy.packing .bf16) := by revert s; decide
theorem slot_words (s : Fin 7) : (Rect.unit (s := S7x512x1024) ![s.val, 0, 0] S1x512x1024.size (slot_inb s)).WholeWords (EltTy.packing .bf16) := by revert s; decide

abbrev halfRect (b : Fin 2) : Rect S2x4096x1024 := Rect.unit (s := S2x4096x1024) ![b.val, 0, 0] S1x4096x1024.size (half_inb b)
abbrev slotRect (s : Fin 7) : Rect S7x512x1024 := Rect.unit (s := S7x512x1024) ![s.val, 0, 0] S1x512x1024.size (slot_inb s)
abbrev colRect (d : Dev nD) (j : Fin 8) : Rect S4096x8192 := Rect.unit (s := S4096x8192) (k0_off1 d (BitVec.ofNat 32 j.val)) S4096x1024.size (k0_off1_inb d j)
abbrev rowRect (d : Dev nD) : Rect S4096x1024 := Rect.unit (s := S4096x1024) (k0_off2 d) S512x1024.size (k0_off2_inb d)
abbrev ownRect (d : Dev nD) : Rect S4096x1024 := Rect.unit (s := S4096x1024) (k0_off3 d) S512x1024.size (k0_off3_inb d)
abbrev xRect : Rect S512x4096 := Rect.unit (s := S512x4096) ![0, 0] S512x4096.size inb_S512x4096_S512x4096_0_0

/-- One half of the weight's buffer; one slot of the outgoing tiles; the column block of the weight that step `j` of device
    `d` multiplies by; the row block of device `d` in a result. -/
abbrev wHalf (b : Fin 2) : Memref sig .tc .vmem S4096x1024 .f32 := (wM.slice (halfRect b) (fun _ => rfl)).squeeze S4096x1024 squeezes_S1x4096x1024_S4096x1024
abbrev ySlot (s : Fin 7) : Memref sig .tc .vmem S512x1024 .bf16 := (yM.slice (slotRect s) (fun _ => rfl)).squeeze S512x1024 squeezes_S1x512x1024_S512x1024
abbrev gCol (d : Dev nD) (j : Fin 8) : Memref sig .tc .hbm S4096x1024 .f32 := gM.slice (colRect d j) (fun _ => rfl)
abbrev oRow (d : Dev nD) : Memref sig .tc .vmem S512x1024 .bf16 := oM.slice (rowRect d) (fun _ => rfl)

/-! ## The semaphores -/

abbrev wSem (b : Fin 2) : DmaSem sig := ((cc0_scratch1.slice (Rect.unit (s := S2) ![b.val] S1.size (sem2_inb b))).squeeze S_ squeezes_S1_S_).sem
abbrev sendSem (s : Fin 7) : DmaSem sig := ((cc0_scratch3.slice (Rect.unit (s := S7) ![s.val] S1.size (sem7_inb s))).squeeze S_ squeezes_S1_S_).sem
abbrev recvSem (s : Fin 7) : DmaSem sig := ((cc0_scratch4.slice (Rect.unit (s := S7) ![s.val] S1.size (sem7_inb s))).squeeze S_ squeezes_S1_S_).sem
abbrev barS : Sem sig := (SemArray.scalar (sig.barrier 0 rfl) : Sems sig S_).sem

/-- The half that step `j` uses. -/
abbrev par (j : Fin 8) : Fin 2 := ⟨j.val % 2, Nat.mod_lt _ (by decide)⟩

/-! ## The devices addressed, as the program computes them -/

def sigTo (d : Dev nD) : Fin 7 → Dev nD
  | 0 => ⟨k0_dev1 d, k0_dev1_lt d⟩ | 1 => ⟨k0_dev2 d, k0_dev2_lt d⟩ | 2 => ⟨k0_dev3 d, k0_dev3_lt d⟩ | 3 => ⟨k0_dev4 d, k0_dev4_lt d⟩
  | 4 => ⟨k0_dev5 d, k0_dev5_lt d⟩ | 5 => ⟨k0_dev6 d, k0_dev6_lt d⟩ | 6 => ⟨k0_dev7 d, k0_dev7_lt d⟩
def sendTo (d : Dev nD) : Fin 7 → Dev nD
  | 0 => ⟨k0_dev8 d, k0_dev8_lt d⟩ | 1 => ⟨k0_dev9 d, k0_dev9_lt d⟩ | 2 => ⟨k0_dev10 d, k0_dev10_lt d⟩ | 3 => ⟨k0_dev11 d, k0_dev11_lt d⟩
  | 4 => ⟨k0_dev12 d, k0_dev12_lt d⟩ | 5 => ⟨k0_dev13 d, k0_dev13_lt d⟩ | 6 => ⟨k0_dev14 d, k0_dev14_lt d⟩

/-! ## The arithmetic of a step -/

/-- The tile: the product of the rows by the column block, times the logistic of itself. -/
def tileV (x : Vec F S512x4096 .f32) (w : Vec F S1x4096x1024 .f32) : FVec F S512x1024 .bf16 := k0_pay2 x w

/-! ## The actions -/

abbrev P (α : Type) := Prog (TpuEff nD τ sig (Elt F) Λ₀ .tc) α

def startW (d : Dev nD) (j : Fin 8) : P (F := F) PUnit :=
  Prog.lift (.enqueueDma (gCol d j) (.here (wHalf (par j))) (.dma (wSem (par j))) (View.wordExact_bits rfl) ((View.wordExact_bits rfl).reshape _ _) ⟨Or.inl rfl, trivial⟩)
def waitW (d : Dev nD) (j : Fin 8) : P (F := F) (Vec F S1x4096x1024 .f32) := do
  Prog.lift (.waitDma2 (wSem (par j)) (gCol d j) (wHalf (par j)) (View.wordExact_bits rfl) ((View.wordExact_bits rfl).reshape _ _))
  Prog.lift (.load wM (halfRect (par j)).toLoadRect (View.loadsAt_vmem h_S1x4096x1024))
def signal (d : Dev nD) (o : Fin 7) : P (F := F) PUnit := semSignalWord (sigTo d o) barS 1#32
def loadX : P (F := F) (Vec F S512x4096 .f32) := Prog.lift (.load xM xRect.toLoadRect (View.loadsAt_vmem h_S512x4096))
def fill (s : Fin 7) (t : FVec F S512x1024 .bf16) : P (F := F) PUnit := do
  let _ ← Prog.lift (.load yM (slotRect s).toLoadRect (View.loadsAt_vmem h_S1x512x1024))
  Prog.lift (.store yM (slotRect s) (k0_pay3 t) Finset.univ (View.stores_vmem h_S1x512x1024 ((Memref.isWhole_whole _).storeExact_slice rfl _ (slot_packed s)) (fun _ => rfl)) (.inl rfl))
def send (d : Dev nD) (s : Fin 7) : P (F := F) PUnit :=
  Prog.lift (.enqueueDma (ySlot s) (.remote (Dev.tc (sendTo d s)) (oRow d) (.dma (sendSem s))) (.dma (recvSem s))
    (((Memref.isWhole_whole _).wordExact_slice rfl _ (slot_words s)).reshape _ _) ((Memref.isWhole_whole _).wordExact_slice rfl _ (k0_off2_wordsbf16 d)) ⟨⟨rfl, Or.inl rfl⟩, trivial⟩)
def keep (d : Dev nD) (t : FVec F S512x1024 .bf16) : P (F := F) PUnit := do
  let _ ← Prog.lift (.load oM (ownRect d).toLoadRect (View.loadsAt_vmem h_S512x1024))
  Prog.lift (.store oM (ownRect d) t Finset.univ (View.stores_vmem h_S512x1024 ((Memref.isWhole_whole _).storeExact_slice rfl _ (k0_off3_packedbf16 d)) (fun _ => rfl)) (.inl rfl))
def waitRecv (d : Dev nD) (s : Fin 7) : P (F := F) PUnit :=
  Prog.lift (.waitDma2 (recvSem s) (ySlot s) (oRow d) (((Memref.isWhole_whole _).wordExact_slice rfl _ (slot_words s)).reshape _ _) ((Memref.isWhole_whole _).wordExact_slice rfl _ (k0_off2_wordsbf16 d)))
def waitSend (d : Dev nD) (s : Fin 7) : P (F := F) PUnit :=
  Prog.lift (.waitDma2 (sendSem s) (oRow d) (ySlot s) ((Memref.isWhole_whole _).wordExact_slice rfl _ (k0_off2_wordsbf16 d)) (((Memref.isWhole_whole _).wordExact_slice rfl _ (slot_words s)).reshape _ _))

/-- The steps 0 to 5: wait for the column block, start the copy of the one two steps on, fill the slot, send. -/
def round (d : Dev nD) (x : Vec F S512x4096 .f32) (j : Fin 8) (j2 : Fin 8) (s : Fin 7) : P (F := F) PUnit := do
  let w ← waitW d j
  startW d j2
  fill s (tileV x w)
  send d s

/-- The whole body. -/
def script (d : Dev nD) : P (F := F) PUnit := do
  startW d 0
  startW d 1
  signal d 0; signal d 1; signal d 2; signal d 3; signal d 4; signal d 5; signal d 6
  semWaitWord barS 7#32
  let x ← loadX
  round d x 0 2 0
  round d x 1 3 1
  round d x 2 4 2
  round d x 3 5 3
  round d x 4 6 4
  round d x 5 7 5
  let w ← waitW d 6
  fill 6 (tileV x w)
  send d 6
  let w ← waitW d 7
  keep d (tileV x w)
  waitRecv d 0; waitRecv d 1; waitRecv d 2; waitRecv d 3; waitRecv d 4; waitRecv d 5; waitRecv d 6
  waitSend d 0; waitSend d 1; waitSend d 2; waitSend d 3; waitSend d 4; waitSend d 5; waitSend d 6
  pure ⟨⟩

set_option maxRecDepth 65536 in
set_option maxHeartbeats 4000000 in
/-- The printed body is the sequence above, at the device it runs on. -/
theorem body_eq : cc0_body (F := F) xM (Memref.isWhole_whole _) gM (Memref.isWhole_whole _) oM (Memref.isWhole_whole _) wM (Memref.isWhole_whole _) cc0_scratch1
    yM (Memref.isWhole_whole _) cc0_scratch3 cc0_scratch4 = (Prog.lift .deviceId >>= fun d => script d) := by
  rw [cc0_body_eq_skeleton]
  rfl

end Cert.Exchange

end
-- ==== Proof.Mesh.lean ====
/-
# The mesh and the pieces of the buffers

Which device each step addresses, which device an arrival comes from, where the pieces of the buffers lie (two halves of the
weight's buffer, seven slots of outgoing tiles, eight row blocks of the result), and what a load or a store at a piece reads and
leaves there.
-/
module

public import proofs.«01_k».proof.Proof.Script
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Memref
public import Idealize.ShloMosaic.Lib.Transfers
public import Idealize.ShloMosaic.Lib.Tactic

@[expose] public section

noncomputable section

namespace Cert.Exchange

open Cert.KernelIdeal Cert.KernelIdeal.Gen
open Idealize.ShloMosaic
open Idealize.ShloMosaic.TcCoe
open Idealize.SL.Sem

variable {F : FTy → Type} [FloatOps F]

/-! ## The devices -/

set_option backward.proofsInPublic true in
/-- The device that step `s` of device `c` sends to, -/
def peer (c : Dev nD) (s : Fin 7) : Dev nD := ⟨(c.val + 1 + s.val) % 8, Nat.mod_lt _ (by decide)⟩
set_option backward.proofsInPublic true in
/-- and the device whose step `s` sends to device `d`. -/
def src (d : Dev nD) (s : Fin 7) : Dev nD := ⟨(d.val + 7 - s.val) % 8, Nat.mod_lt _ (by decide)⟩
set_option backward.proofsInPublic true in
/-- The step at which device `b` computes its tile for device `c`; the step 7 is the own one. -/
def stepOf (b c : Dev nD) : Fin 8 := ⟨(c.val + 7 - b.val) % 8, Nat.mod_lt _ (by decide)⟩
set_option backward.proofsInPublic true in
/-- The step at which `c` uses the permission to write that `src c o` gave it. -/
def opp (o : Fin 7) : Fin 7 := ⟨6 - o.val, by omega⟩

theorem src_peer (c : Dev nD) (s : Fin 7) : src (peer c s) s = c := by revert c s; decide
theorem peer_src (c : Dev nD) (s : Fin 7) : peer (src c s) s = c := by revert c s; decide
theorem peer_opp (c : Dev nD) (s : Fin 7) : peer c s = src c (opp s) := by revert c s; decide
theorem stepOf_src (c : Dev nD) (s : Fin 7) : stepOf (src c s) c = s.castSucc := by revert c s; decide
theorem stepOf_self (c : Dev nD) : stepOf c c = 7 := by revert c; decide

/-- The mesh turned by one step. -/
def turn (s : Fin 7) : Dev nD ≃ Dev nD := ⟨(peer · s), (src · s), fun c => src_peer c s, fun c => peer_src c s⟩

theorem sigTo_eq (c : Dev nD) (s : Fin 7) : sigTo c s = peer c s := by revert c s; decide +kernel
theorem sendTo_eq (c : Dev nD) (s : Fin 7) : sendTo c s = peer c s := by revert c s; decide +kernel
theorem off1_eq (c : Dev nD) (j : Fin 8) : k0_off1 c (BitVec.ofNat 32 j.val) = ![0, 1024 * ((c.val + 1 + j.val) % 8)] := by revert c j; decide +kernel

/-- The eight devices, from `c` on along the steps: `c` and those it sends to, -/
theorem univ_peers (c : Dev nD) : Finset.univ = [c, peer c 0, peer c 1, peer c 2, peer c 3, peer c 4, peer c 5, peer c 6].toFinset := by revert c; decide
theorem nodup_peers (c : Dev nD) : [c, peer c 0, peer c 1, peer c 2, peer c 3, peer c 4, peer c 5, peer c 6].Nodup := by revert c; decide
/-- and `c` and those it receives from. -/
theorem univ_srcs (c : Dev nD) : Finset.univ = [c, src c 0, src c 1, src c 2, src c 3, src c 4, src c 5, src c 6].toFinset := by revert c; decide
theorem nodup_srcs (c : Dev nD) : [c, src c 0, src c 1, src c 2, src c 3, src c 4, src c 5, src c 6].Nodup := by revert c; decide

/-! ## The pieces of the buffers -/

theorem row_disjoint (b b' : Dev nD) (h : b ≠ b') : Disjoint (rowRect b).set (rowRect b').set :=
  Ring.lead_disjoint (s := S4096x1024) (0 : Fin 2) 512 k0_off2 S512x1024.size k0_off2_inb (fun b => by rw [k0_off2_eq]; rfl) rfl b b' h
theorem row_cover : Finset.univ.biUnion (fun b => (rowRect b).set) = Finset.univ :=
  Ring.lead_cover (s := S4096x1024) (0 : Fin 2) 512 k0_off2 S512x1024.size k0_off2_inb (fun b => by rw [k0_off2_eq]; rfl)
    (fun b a h => by rw [k0_off2_eq]; fin_cases a; exact absurd rfl h; rfl) rfl (fun a h => by fin_cases a; exact absurd rfl h; rfl) rfl
theorem slot_disjoint (b b' : Fin 7) (h : b ≠ b') : Disjoint (slotRect b).set (slotRect b').set :=
  Ring.lead_disjoint (s := S7x512x1024) (0 : Fin 3) 1 (fun b => ![b.val, 0, 0]) S1x512x1024.size slot_inb (fun b => (Nat.one_mul _).symm) rfl b b' h
theorem slot_cover : Finset.univ.biUnion (fun b => (slotRect b).set) = Finset.univ :=
  Ring.lead_cover (s := S7x512x1024) (0 : Fin 3) 1 (fun b => ![b.val, 0, 0]) S1x512x1024.size slot_inb (fun b => (Nat.one_mul _).symm)
    (fun b a h => by fin_cases a; exact absurd rfl h; rfl; rfl) rfl (fun a h => by fin_cases a; exact absurd rfl h; rfl; rfl) rfl
theorem half_disjoint (b b' : Fin 2) (h : b ≠ b') : Disjoint (halfRect b).set (halfRect b').set :=
  Ring.lead_disjoint (s := S2x4096x1024) (0 : Fin 3) 1 (fun b => ![b.val, 0, 0]) S1x4096x1024.size half_inb (fun b => (Nat.one_mul _).symm) rfl b b' h
theorem half_cover : Finset.univ.biUnion (fun b => (halfRect b).set) = Finset.univ :=
  Ring.lead_cover (s := S2x4096x1024) (0 : Fin 3) 1 (fun b => ![b.val, 0, 0]) S1x4096x1024.size half_inb (fun b => (Nat.one_mul _).symm)
    (fun b a h => by fin_cases a; exact absurd rfl h; rfl; rfl) rfl (fun a h => by fin_cases a; exact absurd rfl h; rfl; rfl) rfl

theorem ySlot_set (s : Fin 7) : (ySlot s).view.set = (slotRect s).set := by
  show ((yM.view.slice (slotRect s)).reshape S512x1024 _).set = _
  rw [View.set_reshape, View.set_slice]; exact Finset.map_refl
theorem wHalf_set (b : Fin 2) : (wHalf b).view.set = (halfRect b).set := by
  show ((wM.view.slice (halfRect b)).reshape S4096x1024 _).set = _
  rw [View.set_reshape, View.set_slice]; exact Finset.map_refl
theorem oRow_set (b : Dev nD) : (oRow b).view.set = (rowRect b).set := by
  show (oM.view.slice (rowRect b)).set = _
  rw [View.set_slice]; exact Finset.map_refl
theorem ownRect_eq (b : Dev nD) : k0_off3 b = k0_off2 b := by rw [k0_off2_eq, k0_off3_eq]
theorem ownRow_set (b : Dev nD) : (ownRect b).set = (rowRect b).set := by
  unfold ownRect rowRect; simp only [ownRect_eq]

/-! ## What is read and left at a piece -/

/-- What a half holds is what a load of it reads, cast. -/
theorem half_read (b : Fin 2) (f : (cc0_scratch0 : Ref sig .tc).ty.Contents (Elt F)) :
    shapeCast S4096x1024 (wM.view.readAt (Elt F) (halfRect b).toLoadRect f) shapeCasts_S1x4096x1024_S4096x1024 = (wHalf b).view.read (Elt F) f := rfl

/-- The tile from the rows and the column block. -/
def tileC (x : Vec F S512x4096 .f32) (w : Vec F S4096x1024 .f32) : FVec F S512x1024 .bf16 :=
  truncf .bf16 (mulf (matmul dot_S512x4096_S4096x1024_S512x1024_1_0_0_1_n_n none (k0_pay1 x) (truncf .bf16 w bitsLt_bf16_f32) (constant S512x1024 .f32 0x00000000#32))
    (logistic (matmul dot_S512x4096_S4096x1024_S512x1024_1_0_0_1_n_n none (k0_pay1 x) (truncf .bf16 w bitsLt_bf16_f32) (constant S512x1024 .f32 0x00000000#32)))) bitsLt_bf16_f32

theorem tileV_eq (x : Vec F S512x4096 .f32) (w : Vec F S1x4096x1024 .f32) :
    tileV x w = tileC x (shapeCast S4096x1024 w shapeCasts_S1x4096x1024_S4096x1024) := rfl

/-- A slot filled with a tile reads as the tile. -/
theorem slot_write (s : Fin 7) (f : (cc0_scratch2 : Ref sig .tc).ty.Contents (Elt F)) (t : FVec F S512x1024 .bf16) :
    (ySlot s).view.read (Elt F) ((yM.access (slotRect s) : View sig .tc _ _ _).write (Elt F) f (k0_pay3 t) Finset.univ) = t := by
  have h : (ySlot s).view.read (Elt F) ((yM.access (slotRect s) : View sig .tc _ _ _).write (Elt F) f (k0_pay3 t) Finset.univ)
      = shapeCast S512x1024 ((yM.access (slotRect s) : View sig .tc _ _ _).read (Elt F) ((yM.access (slotRect s) : View sig .tc _ _ _).write (Elt F) f (k0_pay3 t) Finset.univ))
          shapeCasts_S1x512x1024_S512x1024 := rfl
  rw [h, View.read_write_univ]
  unfold k0_pay3
  exact shapeCast_shapeCast _ _ _

/-- The own rows stored read as what was stored. -/
theorem own_write (c : Dev nD) (f : (cc0_stg1_0 : Ref sig .tc).ty.Contents (Elt F)) (t : FVec F S512x1024 .bf16) :
    (oRow c).view.read (Elt F) ((oM.access (ownRect c) : View sig .tc _ _ _).write (Elt F) f t Finset.univ) = t := by
  have h (off : Fin 2 → ℕ) (e : off = k0_off2 c) (hi : ∀ a, off a + S512x1024.size a ≤ S4096x1024.size a) :
      (oRow c).view.read (Elt F) ((oM.access (Rect.unit (s := S4096x1024) off S512x1024.size hi) : View sig .tc _ _ _).write (Elt F) f t Finset.univ) = t := by
    subst e; exact View.read_write_univ _ _
  exact h _ (ownRect_eq c) _

theorem load_slot_sub (s : Fin 7) : yM.view.setOn (slotRect s).toLoadRect.set ⊆ (ySlot s).view.set := by
  rw [ySlot_set]; intro i hi
  obtain ⟨x, hx, rfl⟩ := Finset.mem_map.mp hi
  exact hx
theorem store_slot_sub (s : Fin 7) : (yM.access (slotRect s) : View sig .tc _ _ _).setOn Finset.univ ⊆ (ySlot s).view.set := by
  rw [View.setOn_univ, View.set_slice, ySlot_set]; exact (Finset.map_refl (s := (slotRect s).set)).subset
theorem load_half_sub (b : Fin 2) : wM.view.setOn (halfRect b).toLoadRect.set ⊆ (wHalf b).view.set := by
  rw [wHalf_set]; intro i hi
  obtain ⟨x, hx, rfl⟩ := Finset.mem_map.mp hi
  exact hx
theorem load_own_sub (c : Dev nD) : oM.view.setOn (ownRect c).toLoadRect.set ⊆ (oRow c).view.set := by
  rw [oRow_set, ← ownRow_set]; intro i hi
  obtain ⟨x, hx, rfl⟩ := Finset.mem_map.mp hi
  exact hx
theorem store_own_sub (c : Dev nD) : (oM.access (ownRect c) : View sig .tc _ _ _).setOn Finset.univ ⊆ (oRow c).view.set := by
  rw [View.setOn_univ, View.set_slice, oRow_set, ← ownRow_set]; exact (Finset.map_refl (s := (ownRect c).set)).subset
theorem read_x (f : (cc0_stg0_0 : Ref sig .tc).ty.Contents (Elt F)) : xM.view.readAt (Elt F) xRect.toLoadRect f = f :=
  Memref.readAt_unit_zero (Elt F) cc0_stg0_0 (funext fun a => by fin_cases a <;> rfl) _ f

end Cert.Exchange

end
-- ==== Proof.Schedule.lean ====
/-
# The protocol

Each device has one barrier semaphore and, for each of the seven steps that send, a departure and an arrival semaphore. All are
used for one round.

* Barrier of `c`: seven units, one from each other device. The unit from `src c o` hands over that device's row block `c` of its
  result, at any contents: the permission to copy a tile there. `c` waits for all seven before its first send.
* Departure `s` of `c`: the copy of step `s` pays it, its credit, when the slot has been read; it hands the slot back.
* Arrival `s` of `c`: the copy of step `s` of `src c s` pays it, its credit; it hands over row block `src c s` of `c`'s result,
  holding that device's tile for `c`.

The two semaphores of the weight's copies stay with their device (`Transfers`). Waits: the weight's copies and departures are owed
nothing by others, the barrier sits below the arrivals.
-/
module

public import proofs.«01_k».proof.Proof.Mesh
public import proofs.«01_k».proof.Proof.Gen.KernelIdeal.Launch

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

/-! ## The resources -/

/-- The protocol's part: duties named by steps. -/
abbrev UB : Type := URounds (GSem nD τ sig) (Fin 7)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The counters that the weight's copies ride on. -/
def EC : UEmb Counters (MT nD τ sig Unit (Elt F) ℕ UU ℕ) :=
  ((UEmb.inr : UEmb Counters (UB × Counters)).trans (UEmb.inr : UEmb (UB × Counters) UU)).trans
    (uEmb (nD := nD) (sig := sig) (Ix := Unit) (Val := Elt F) (Name := ℕ) (U := UU) (Lvl := ℕ))
instance EC_landsIn : (EC : UEmb Counters 𝕄).LandsIn (upEmb : UEmb _ 𝕄) := by unfold EC; infer_instance

abbrev 𝒱₀ : Variants := Variants.none

variable (m : (ℓ : Loc nD τ sig) → Buf (Elt F) ℓ) (ρ : Dev nD → PrngReg)

/-- The memory at launch: arbitrary contents, every semaphore zero. -/
def s₀ : MemSt nD τ sig (Elt F) := ⟨m, fun _ => 0, ρ⟩

/-! ## The cells -/

/-- A semaphore of the protocol: the barrier, a departure `(false, s)`, an arrival `(true, s)`. -/
abbrev CK : Type := Option (Bool × Fin 7)

abbrev csem : CK → SemLoc sig
  | none => .reg barS | some (false, s) => .dma (sendSem s) | some (true, s) => .dma (recvSem s)
abbrev kcell (ck : Dev nD × CK) : GSem nD τ sig := ((ck.1 : Thread nD τ), csem ck.2)
abbrev barCell (c : Dev nD) : GSem nD τ sig := kcell (c, none)
abbrev sendCell (c : Dev nD) (s : Fin 7) : GSem nD τ sig := kcell (c, some (false, s))
abbrev recvCell (c : Dev nD) (s : Fin 7) : GSem nD τ sig := kcell (c, some (true, s))

set_option backward.proofsInPublic true in
/-- Which semaphore of the protocol one is. -/
def kind : SemLoc sig → Option CK
  | .reg _ => some none
  | .dma q => if h : 4 ≤ q.val ∧ q.val < 11 then some (some (false, ⟨q.val - 4, by omega⟩))
      else if h : 11 ≤ q.val ∧ q.val < 18 then some (some (true, ⟨q.val - 11, by omega⟩)) else none

theorem kind_csem (k : CK) : kind (csem k) = some k := by revert k; decide
theorem csem_injective : Function.Injective csem := fun a b h => by
  have := congrArg kind h; rw [kind_csem, kind_csem] at this; exact Option.some.inj this
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- The credit of one tile; of one column block. -/
def N : ℕ := (ySlot 0 : Memref sig .tc .vmem S512x1024 .bf16).view.dmaCredit
theorem N_pos : 0 < N := View.dmaCredit_pos _ (by decide)
theorem credit_row (c : Dev nD) : (oRow c).view.dmaCredit = N := rfl
theorem credit_slot (s : Fin 7) : (ySlot s).view.dmaCredit = N := rfl
def NW : ℕ := (wHalf 0 : Memref sig .tc .vmem S4096x1024 .f32).view.dmaCredit
theorem NW_pos : 0 < NW := View.dmaCredit_pos _ (by decide)
theorem credit_half (b : Fin 2) : (wHalf b).view.dmaCredit = NW := rfl

/-! ## The contents -/

/-- The device's rows of `x`, as the staging buffer holds them; -/
def xOf (c : Dev nD) : (cc0_stg0_0 : Ref sig .tc).ty.Contents (Elt F) :=
  (win0_0.blk (0 : Fin 1)).view.read (Elt F) ((s₀ m ρ).mem ((c : Thread nD τ).loc main_arg0))
/-- the column block of the weight that its step `j` multiplies by; -/
def wOf (c : Dev nD) (j : Fin 8) : Vec F S4096x1024 .f32 := (gCol c j).view.read (Elt F) (m ((c : Thread nD τ).loc main_arg1))
/-- the tile of that step. -/
def tile (c : Dev nD) (j : Fin 8) : FVec F S512x1024 .bf16 := tileC (xOf m ρ c) (wOf m c j)

/-- Row block `b` of device `a`'s result, at contents `X`; at any contents. -/
def rowAt (a b : Dev nD) (X : FVec F S512x1024 .bf16) : sProp 𝕄 := owns (a : Thread nD τ) (oRow b) fullShare X
def rowAny (a b : Dev nD) : sProp 𝕄 := iprop(∃ X, rowAt a b X)
/-- Slot `s` of device `c`. -/
def slotAt (c : Dev nD) (s : Fin 7) (X : FVec F S512x1024 .bf16) : sProp 𝕄 := owns (c : Thread nD τ) (ySlot s) fullShare X
def slotAny (c : Dev nD) (s : Fin 7) : sProp 𝕄 := iprop(∃ X, slotAt c s X)
/-- Half `b` of device `c`'s weight buffer. -/
def halfAt (c : Dev nD) (b : Fin 2) (X : Vec F S4096x1024 .f32) : sProp 𝕄 := owns (c : Thread nD τ) (wHalf b) fullShare X
def halfAny (c : Dev nD) (b : Fin 2) : sProp 𝕄 := iprop(∃ X, halfAt c b X)

instance rowAt_storable (a b : Dev nD) (X) : BI.Storable (upEmb : UEmb _ 𝕄) (rowAt (F := F) a b X) := by unfold rowAt; infer_instance
instance rowAny_storable (a b : Dev nD) : BI.Storable (upEmb : UEmb _ 𝕄) (rowAny (F := F) a b) := by unfold rowAny; infer_instance
instance slotAt_storable (c : Dev nD) (s) (X) : BI.Storable (upEmb : UEmb _ 𝕄) (slotAt (F := F) c s X) := by unfold slotAt; infer_instance
instance slotAny_storable (c : Dev nD) (s) : BI.Storable (upEmb : UEmb _ 𝕄) (slotAny (F := F) c s) := by unfold slotAny; infer_instance
instance halfAt_storable (c : Dev nD) (s) (X) : BI.Storable (upEmb : UEmb _ 𝕄) (halfAt (F := F) c s X) := by unfold halfAt; infer_instance

/-! ## The schedule -/

def rd : Rounds.Schedule (GSem nD τ sig) (Fin 7) 𝕄 where
  duties g r := if r = 0 ∧ g.1.2 = .tc then (match kind g.2 with | some none => Finset.univ | some (some _) => {0} | none => ∅) else ∅
  unitless _ := False
  amount g _ _ := match kind g.2 with | some none => 1 | _ => N
  payload g _ d := match kind g.2 with
    | some none => rowAny (src g.1.1 d) g.1.1
    | some (some (false, s)) => slotAny g.1.1 s
    | some (some (true, s)) => rowAt g.1.1 (src g.1.1 s) (tile m ρ (src g.1.1 s) s.castSucc)
    | none => iprop(emp)
  amount_pos g _ _ _ := by
    show 0 < (match kind g.2 with | some none => 1 | _ => N)
    split
    · exact Nat.one_pos
    · exact N_pos

instance rd_payload_storable (g : GSem nD τ sig) (r : ℕ) (d : Fin 7) :
    BI.Storable (upEmb : UEmb _ 𝕄) ((rd (F := F) m ρ).payload g r d) := by
  show BI.Storable upEmb (match kind g.2 with
    | some none => rowAny (src g.1.1 d) g.1.1
    | some (some (false, s)) => slotAny g.1.1 s
    | some (some (true, s)) => rowAt g.1.1 (src g.1.1 s) (tile m ρ (src g.1.1 s) s.castSucc)
    | none => iprop(emp))
  split <;> infer_instance

section Sched
variable (c : Dev nD) (s : Fin 7)

theorem duties_bar : (rd (F := F) m ρ).duties (barCell c) 0 = Finset.univ := by
  dsimp only [rd]; rw [kind_csem]; exact if_pos ⟨rfl, rfl⟩
theorem duties_send : (rd (F := F) m ρ).duties (sendCell c s) 0 = {0} := by
  dsimp only [rd]; rw [kind_csem]; exact if_pos ⟨rfl, rfl⟩
theorem duties_recv : (rd (F := F) m ρ).duties (recvCell c s) 0 = {0} := by
  dsimp only [rd]; rw [kind_csem]; exact if_pos ⟨rfl, rfl⟩
theorem duties_later (g : GSem nD τ sig) : ∀ r, 1 ≤ r → (rd (F := F) m ρ).duties g r = ∅ :=
  fun r hr => by dsimp only [rd]; exact if_neg fun h => by omega
theorem amount_bar (d : Fin 7) : (rd (F := F) m ρ).amount (barCell c) 0 d = 1 := by dsimp only [rd]; rw [kind_csem]
theorem amount_send (d : Fin 7) : (rd (F := F) m ρ).amount (sendCell c s) 0 d = N := by dsimp only [rd]; rw [kind_csem]
theorem amount_recv (d : Fin 7) : (rd (F := F) m ρ).amount (recvCell c s) 0 d = N := by dsimp only [rd]; rw [kind_csem]
theorem expect_bar : (rd (F := F) m ρ).expect (barCell c) 0 = 7 := by
  unfold Schedule.expect Schedule.amountOf
  rw [duties_bar, Finset.sum_congr rfl fun d _ => amount_bar m ρ c d]; rfl
theorem expect_send : (rd (F := F) m ρ).expect (sendCell c s) 0 = N := by
  unfold Schedule.expect Schedule.amountOf; rw [duties_send, Finset.sum_singleton, amount_send]
theorem expect_recv : (rd (F := F) m ρ).expect (recvCell c s) 0 = N := by
  unfold Schedule.expect Schedule.amountOf; rw [duties_recv, Finset.sum_singleton, amount_recv]
theorem payload_bar (d : Fin 7) : (rd (F := F) m ρ).payload (barCell c) 0 d = rowAny (src c d) c := by dsimp only [rd]; rw [kind_csem]
theorem payload_send (d : Fin 7) : (rd (F := F) m ρ).payload (sendCell c s) 0 d = slotAny c s := by dsimp only [rd]; rw [kind_csem]
theorem payload_recv (d : Fin 7) : (rd (F := F) m ρ).payload (recvCell c s) 0 d = rowAt c (src c s) (tile m ρ (src c s) s.castSucc) := by
  dsimp only [rd]; rw [kind_csem]

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- What the barrier's round hands over: for each other device, its row block `c`. -/
theorem rest_bar : bigSep ((rd (F := F) m ρ).duties (barCell c) 0 \ ∅) (fun d => (rd (F := F) m ρ).payload (barCell c) 0 d)
    = bigSep Finset.univ fun d : Fin 7 => rowAny (src c d) c := by
  rw [Finset.sdiff_empty, duties_bar]; exact bigSep_congr fun d _ => payload_bar m ρ c d
theorem rest_send : bigSep ((rd (F := F) m ρ).duties (sendCell c s) 0 \ ∅) (fun d => (rd (F := F) m ρ).payload (sendCell c s) 0 d) = slotAny c s := by
  rw [Finset.sdiff_empty, duties_send, bigSep_singleton, payload_send]
theorem rest_recv : bigSep ((rd (F := F) m ρ).duties (recvCell c s) 0 \ ∅) (fun d => (rd (F := F) m ρ).payload (recvCell c s) 0 d)
    = rowAt c (src c s) (tile m ρ (src c s) s.castSucc) := by
  rw [Finset.sdiff_empty, duties_recv, bigSep_singleton, payload_recv]

end Sched

/-! ## What a device owes, and the levels -/

/-- What device `c` pays on another device: `(false, s)` a unit of the barrier of `peer c s`, `(true, s)` the arrival of its tile
    there. -/
def target (c : Dev nD) : Bool × Fin 7 → GSem nD τ sig
  | (false, s) => barCell (peer c s) | (true, s) => recvCell (peer c s) s
def amt : Bool × Fin 7 → ℕ | (false, _) => 1 | (true, _) => N
/-- The payments still to make, the next one first. -/
def due (c : Dev nD) : List (Bool × Fin 7) → CellTallies nD τ sig Unit
  | [] => 0
  | e :: l => due c l + tallyAt (target c e) () (amt e)

abbrev sends : List (Bool × Fin 7) := [(true, 0), (true, 1), (true, 2), (true, 3), (true, 4), (true, 5), (true, 6)]
abbrev all : List (Bool × Fin 7) := (false, 0) :: (false, 1) :: (false, 2) :: (false, 3) :: (false, 4) :: (false, 5) :: (false, 6) :: sends
def O₀ (c : Dev nD) : CellTallies nD τ sig Unit := due c all

theorem due_apply (c : Dev nD) (l : List (Bool × Fin 7)) (g : GSem nD τ sig) :
    due c l g () = (l.map fun e => if g = target c e then amt e else 0).sum := by
  induction l with
  | nil => rfl
  | cons e l ih =>
    show (due c l + tallyAt (target c e) () (amt e)) g () = _
    rw [Pi.add_apply, Finsupp.add_apply, ih, tallyAt_apply, List.map_cons, List.sum_cons, Nat.add_comm]
    congr 1
    by_cases h : g = target c e
    · rw [if_pos h, if_pos ⟨h, rfl⟩]
    · rw [if_neg h, if_neg (fun h' => h h'.1)]

theorem due_pos {c : Dev nD} {l : List (Bool × Fin 7)} {g : GSem nD τ sig} {u : Unit} (h : 0 < due c l g u) : ∃ e ∈ l, g = target c e := by
  induction l with
  | nil => exact absurd h (Nat.lt_irrefl 0)
  | cons e l ih =>
    by_cases hg : g = target c e
    · exact ⟨e, List.mem_cons_self, hg⟩
    · have h' : 0 < (due c l + tallyAt (target c e) () (amt e)) g u := h
      rw [Pi.add_apply, Finsupp.add_apply, tallyAt_apply, if_neg (fun h' => hg h'.1)] at h'
      obtain ⟨e', he', hg'⟩ := ih h'
      exact ⟨e', List.mem_cons_of_mem _ he', hg'⟩

def L (g : GSem nD τ sig) : Finset Unit := if g.1.2 = .tc then {()} else ∅
/-- The barrier at 1, the arrivals at 2, all else at 0. -/
def lv (g : GSem nD τ sig) (_ : Unit) : ℕ := match kind g.2 with | some none => 1 | some (some (true, _)) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem L_target (c : Dev nD) (e : Bool × Fin 7) : L (target c e) = {()} := by
  rcases e with ⟨_ | _, s⟩ <;> exact L_tc _ _
theorem lv_cell (ck : Dev nD × CK) : lv (kcell ck) () = (match ck.2 with | none => 1 | some (true, _) => 2 | _ => 0) := by
  unfold lv; dsimp only [kcell]; rw [kind_csem]; rcases ck with ⟨c, _ | ⟨_ | _, s⟩⟩ <;> rfl
def above (n : ℕ) : Bool × Fin 7 → Prop | (false, _) => n < 1 | (true, _) => n < 2
theorem lv_target (c : Dev nD) (e : Bool × Fin 7) {n : ℕ} (h : above n e) : n < lv (target c e) () := by
  rcases e with ⟨_ | _, s⟩
  · show n < lv (barCell _) (); rw [lv_cell]; exact h
  · show n < lv (recvCell _ _) (); rw [lv_cell]; exact h

/-- A wait is allowed below everything still owed. -/
theorem mayWait (c : Dev nD) (sm : SemLoc sig) (n : ℕ) (hsm : lv ((c : Thread nD τ), sm) () ≤ n) (l : List (Bool × Fin 7)) (hl : ∀ e ∈ l, above n e) :
    (levAts L lv : sProp 𝕄) ⊢ MayWait (c : Thread nD τ) sm () (due c l) :=
  MayOwe.of_cut (L := L) (lev := lv) n (fun p hp => by rw [Finset.mem_singleton.mp hp, L_tc]; exact Finset.mem_singleton_self _)
    (fun g u hg => by obtain ⟨e, -, rfl⟩ := due_pos hg; rw [L_target]; exact Finset.mem_singleton_self _)
    (fun p hp => by rw [Finset.mem_singleton.mp hp]; exact hsm)
    (fun g u hg => by obtain ⟨e, he, rfl⟩ := due_pos hg; exact lv_target c e (hl e he))

/-! ## The records -/

/-- The protocol's persistent facts, under the names `K`: every cell's invariant, every cell at its round, the levels. -/
def records (K : Dev nD × CK → ℕ) : sProp 𝕄 :=
  iprop((bigSep Finset.univ fun ck : Dev nD × CK => cellInv ER (rd m ρ) (K ck) (kcell ck))
    ∗ (bigSep Finset.univ fun ck : Dev nD × CK => reached ER (kcell ck) 0))
def ctx (K : Dev nD × CK → ℕ) : sProp 𝕄 := iprop(records m ρ K ∗ levAts L lv)

instance records_persistent (K : Dev nD × CK → ℕ) : BI.Persistent (records m ρ K) := by unfold records; infer_instance
instance ctx_persistent (K : Dev nD × CK → ℕ) : BI.Persistent (ctx m ρ K) := by unfold ctx; infer_instance

theorem inv_of_ctx (K : Dev nD × CK → ℕ) (c : Dev nD) (k : CK) : ctx m ρ K ⊢ cellInv ER (rd m ρ) (K (c, k)) (kcell (c, k)) := by
  unfold ctx records
  exact sep_elim_left.trans (sep_elim_left.trans (bigSep_elim (Φ := fun ck : Dev nD × CK => (cellInv ER (rd m ρ) (K ck) (kcell ck) : sProp 𝕄)) (Finset.mem_univ (c, k))))
theorem reached_of_ctx (K : Dev nD × CK → ℕ) (c : Dev nD) (k : CK) : ctx m ρ K ⊢ reached ER (kcell (c, k)) 0 := by
  unfold ctx records
  exact sep_elim_left.trans (sep_elim_right.trans (bigSep_elim (Φ := fun ck : Dev nD × CK => (reached ER (kcell ck) 0 : sProp 𝕄)) (Finset.mem_univ (c, k))))
theorem lev_of_ctx (K : Dev nD × CK → ℕ) : ctx m ρ K ⊢ levAts L lv := by
  unfold ctx; iintro ⟨-, H⟩; iexact H

end Cert.Exchange

end
-- ==== Proof.Steps.lean ====
/-
# One rule for each action

For each action of `Script`, what a device gives to it and what it has afterwards.
-/
module

public import proofs.«01_k».proof.Proof.Schedule

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ) (c : Dev nD)

/-- The weakest precondition of a program of device `c`'s body. -/
abbrev WP {α : Type} (p : P (F := F) α) (Q : α → sProp 𝕄) : sProp 𝕄 := wp frame (wpE (defs₀ (F := F)) 𝒱₀ (c : Thread nD τ) none) Set.univ p Q

/-- What the device still owes. -/
def ow (l : List (Bool × Fin 7)) : sProp 𝕄 := iprop(∃ W, owes (c : Thread nD τ) (due c l) W)

/-! ## The weight's copies -/

/-- The share of the weight that the copies into half `b` read. -/
def gShare : Fin 2 → PosShare TreeShare | 0 => fullShare.left | 1 => fullShare.right

abbrev gLoc : Loc nD τ sig := (c : Thread nD τ).loc main_arg1
def gWhole (b : Fin 2) : sProp 𝕄 := gLoc c ↦{gShare b} m (gLoc c)
/-- A copy in flight: it will deliver half `par j` holding column block `j`, and give back what it reads. -/
def flying (j : Fin 8) : sProp 𝕄 :=
  iprop(Flight EC (c : Thread nD τ) (.dma (wSem (par j))) () NW
      iprop(halfAt c (par j) (wOf m c j) ∗ (gLoc c ↦[(gCol c j).view.set]{gShare (par j)} m (gLoc c)))
    ∗ (gLoc c ↦[Finset.univ \ (gCol c j).view.set]{gShare (par j)} m (gLoc c)))

variable {α : Type} {Q : α → sProp (MT nD τ sig Unit (Elt F) ℕ UU ℕ)}

theorem wp_startW (j : Fin 8) (b : Fin 2) (hb : par j = b) {k : PUnit → P (F := F) α} :
    iprop(halfAny c b ∗ gWhole m c b ∗ semVal ((c : Thread nD τ), .dma (wSem b)) 0)
      ⊢ iprop((flying m c j -∗ WP c (k ⟨⟩) Q) -∗ WP c (startW c j >>= k) Q) := by
  subst hb
  unfold halfAny halfAt gWhole owns
  simp only [startW, Prog.lift, Prog.bind_op, Prog.bind_ret]
  iintro ⟨⟨%X, %f, %hf, Hd⟩, Hg, Hv⟩ Hk
  ihave Hg' := (pointsTo_split_subset (Finset.subset_univ (gCol c j).view.set)).1 $$ Hg
  icases Hg' with ⟨Hs, Hr⟩
  iapply (Transfers.wp_dmaLocal EC 𝒱₀ (c : Thread nD τ) none (src := gCol c j) (dst := wHalf (par j)) (sm := .dma (wSem (par j))) (via := .same) (fs := m (gLoc c)) (fd := f) () NW rfl NW_pos (Finset.Subset.refl _)) $$ [Hs Hd Hv]
  · isplitl [Hs]; · iexact Hs
    isplitl [Hd]; · iexact Hd
    iexact Hv
  iintro HF
  iapply Hk
  unfold flying
  isplitl [HF]
  · iapply (Transfers.Flight_mono (c := (c : Thread nD τ)) EC ?_) $$ HF
    refine sep_mono_left ?_
    unfold halfAt owns
    iintro H
    iexists _
    isplitr
    rotate_left
    · iexact H
    · ipureintro
      exact View.read_write_univ _ _
  · iexact Hr

theorem lv_w (b : Fin 2) : lv ((c : Thread nD τ), .dma (wSem b)) () ≤ 0 := by
  have h : kind (.dma (wSem b)) = none := by revert b; decide
  unfold lv; dsimp only; rw [h]
theorem above_zero (e : Bool × Fin 7) : above 0 e := by rcases e with ⟨_ | _, s⟩ <;> exact Nat.succ_pos _

/-- The wait for a copy and the load of what it left: a value that casts to the column block. -/
theorem wp_waitW (j : Fin 8) (b : Fin 2) (hb : par j = b) (l : List (Bool × Fin 7)) {k : Vec F S1x4096x1024 .f32 → P (F := F) α} :
    iprop(ctx m ρ K ∗ flying m c j ∗ ow c l)
      ⊢ iprop((∀ w, ⌜shapeCast S4096x1024 w shapeCasts_S1x4096x1024_S4096x1024 = wOf m c j⌝
            -∗ (halfAny c b ∗ gWhole m c b ∗ semVal ((c : Thread nD τ), .dma (wSem b)) 0 ∗ ow c l) -∗ WP c (k w) Q)
          -∗ WP c (waitW c j >>= k) Q) := by
  subst hb
  unfold flying ow
  simp only [waitW, Prog.lift, Prog.bind_op, Prog.bind_ret]
  iintro ⟨#HC, ⟨HF, Hr⟩, ⟨%W, HO⟩⟩ Hk
  iapply (Transfers.wp_waitLocalO EC 𝒱₀ (c : Thread nD τ) none (srcw := gCol c j) (dstw := wHalf (par j)) (hsrc := View.wordExact_bits rfl)
    (hdst := (View.wordExact_bits rfl).reshape _ _) () (N := NW) rfl) $$ [HF HO]
  · isplitl [HF]; · iexact HF
    isplitl [HO]; · iexact HO
    iapply (mayWait c (.dma (wSem (par j))) 0 (lv_w c _) l fun e _ => above_zero e)
    iapply (lev_of_ctx m ρ K); iexact HC
  iintro ⟨⟨Hh, Hs⟩, Hv, HO⟩
  unfold halfAt owns
  icases Hh with ⟨%f, %hf, Hh⟩
  iapply (wp_load 𝒱₀ (c : Thread nD τ) none Set.univ (m := wM) (load_half_sub (par j))) $$ Hh
  iintro Hh
  iapply Hk $$ %_
  · ipureintro; exact (half_read (par j) f).trans hf
  isplitl [Hh]
  · unfold halfAny halfAt owns; iexists (wOf m c j); iexists f; isplitr
    · ipureintro; exact hf
    · iexact Hh
  isplitl [Hs Hr]
  · unfold gWhole
    iapply (pointsTo_split_subset (Finset.subset_univ (gCol c j).view.set)).2
    isplitl [Hs]; · iexact Hs
    iexact Hr
  isplitl [Hv]; · iexact Hv
  iexists _; iexact HO

/-! ## The barrier -/

/-- A signal: the permission to write row block `peer c o` of this device's result goes to that device. -/
theorem wp_sig (o : Fin 7) (l : List (Bool × Fin 7)) {k : PUnit → P (F := F) α} :
    iprop(ctx m ρ K ∗ rowAny c (peer c o) ∗ dutyTok ER (barCell (peer c o)) 0 o ∗ ow c ((false, o) :: l))
      ⊢ iprop((ow c l -∗ WP c (k ⟨⟩) Q) -∗ WP c (signal c o >>= k) Q) := by
  simp only [signal, semSignalWord, Prog.lift, Prog.bind_op, Prog.bind_ret, sigTo_eq]
  unfold ow
  iintro ⟨#HC, Hr, Ht, ⟨%W, HO⟩⟩ Hk
  iapply (Rounds.wp_signal 𝒱₀ ER (rd m ρ) (c : Thread nD τ) none (dst := (peer c o : Thread nD τ)) (κ := K (peer c o, none)) (d := o)
      (by rw [duties_bar]; exact Finset.mem_univ _) ((amount_bar m ρ (peer c o) o).trans (by decide)) () (due c l) rfl) $$ [HO Ht Hr]
  · isplitr; · iapply (inv_of_ctx m ρ K (peer c o) none); iexact HC
    isplitl [HO]; · iexact HO
    isplitl [Ht]; · iexact Ht
    isplitl [Hr]
    · rw [payload_bar, src_peer]; iexact Hr
    · iapply (reached_of_ctx m ρ K (peer c o) none); iexact HC
  iintro HO
  iapply Hk
  iexists _; iexact HO

/-- The wait for all seven, owing only arrivals. -/
theorem wp_waitBar (l : List (Bool × Fin 7)) (hl : ∀ e ∈ l, above 1 e) {k : PUnit → P (F := F) α} :
    iprop(ctx m ρ K ∗ cred (tallyAt (barCell c) () 7) ∗ atPos ER (barCell c) 0 ∅ 0 ∗ ow c l)
      ⊢ iprop(((bigSep Finset.univ fun d : Fin 7 => rowAny (src c d) c) ∗ atPos ER (barCell c) 1 ∅ 0 ∗ ow c l -∗ WP c (k ⟨⟩) Q)
          -∗ WP c (semWaitWord barS 7#32 >>= k) Q) := by
  simp only [semWaitWord, Prog.lift, Prog.bind_op, Prog.bind_ret]
  unfold ow
  iintro ⟨#HC, Hc, Ha, ⟨%W, HO⟩⟩ Hk
  iapply (Rounds.wp_wait_rest_token 𝒱₀ ER (rd m ρ) (c : Thread nD τ) none (κ := K (c, none))
      (wpE_semWait_eq 𝒱₀ (c : Thread nD τ) none Set.univ) (Set.mem_univ _) () (O := due c l) (W := W) (R := 0) (m := 0) (T := ∅)
      (by rw [expect_bar]; decide)) $$ [Hc HO Ha]
  · isplitr; · iapply (inv_of_ctx m ρ K c none); iexact HC
    isplitl [Hc]; · iexact Hc
    isplitl [HO]; · iexact HO
    isplitr
    · iapply (mayWait c (.reg barS) 1 (by show lv (barCell c) () ≤ 1; rw [lv_cell]) l hl)
      iapply (lev_of_ctx m ρ K); iexact HC
    iexact Ha
  iintro ⟨HO, Ha, -, Hp⟩
  ihave Hp' := (Entails.of_eq (rest_bar m ρ c)) $$ Hp
  iapply Hk
  isplitl [Hp']; · iexact Hp'
  isplitl [Ha]; · iexact Ha
  iexists _; iexact HO

/-! ## A step's slot and its copy -/

theorem wp_loadX (f : (cc0_stg0_0 : Ref sig .tc).ty.Contents (Elt F)) {k : Vec F S512x4096 .f32 → P (F := F) α} :
    iprop(((c : Thread nD τ).loc cc0_stg0_0) ↦{fullShare} f)
      ⊢ iprop(((((c : Thread nD τ).loc cc0_stg0_0) ↦{fullShare} f) -∗ WP c (k f) Q) -∗ WP c (loadX >>= k) Q) := by
  simp only [loadX, Prog.lift, Prog.bind_op, Prog.bind_ret]
  iintro H Hk
  iapply (wp_load 𝒱₀ (c : Thread nD τ) none Set.univ (m := xM) (Finset.subset_univ _)) $$ H
  iintro H
  rw [read_x]
  iapply Hk; iexact H

theorem wp_fill (s : Fin 7) (t : FVec F S512x1024 .bf16) {k : PUnit → P (F := F) α} :
    iprop(slotAny c s) ⊢ iprop((slotAt c s t -∗ WP c (k ⟨⟩) Q) -∗ WP c (fill s t >>= k) Q) := by
  simp only [fill, Prog.lift, Prog.bind_op, Prog.bind_ret]
  unfold slotAny slotAt owns
  iintro ⟨%X, %f, %hf, H⟩ Hk
  iapply (wp_load 𝒱₀ (c : Thread nD τ) none Set.univ (m := yM) (load_slot_sub s)) $$ H
  iintro H
  iapply (wp_store 𝒱₀ (c : Thread nD τ) none Set.univ (m := yM) (r := slotRect s) (Mk := Finset.univ) (store_slot_sub s)) $$ H
  iintro H
  iapply Hk
  iexists _
  isplitr
  rotate_left
  · iexact H
  · ipureintro; exact slot_write s f t

theorem wp_keep (t : FVec F S512x1024 .bf16) {k : PUnit → P (F := F) α} :
    iprop(rowAny c c) ⊢ iprop((rowAt c c t -∗ WP c (k ⟨⟩) Q) -∗ WP c (keep c t >>= k) Q) := by
  simp only [keep, Prog.lift, Prog.bind_op, Prog.bind_ret]
  unfold rowAny rowAt owns
  iintro ⟨%X, %f, %hf, H⟩ Hk
  iapply (wp_load 𝒱₀ (c : Thread nD τ) none Set.univ (m := oM) (load_own_sub c)) $$ H
  iintro H
  iapply (wp_store 𝒱₀ (c : Thread nD τ) none Set.univ (m := oM) (r := ownRect c) (Mk := Finset.univ) (store_own_sub c)) $$ H
  iintro H
  iapply Hk
  iexists _
  isplitr
  rotate_left
  · iexact H
  · ipureintro; exact own_write c f t

theorem due_send (s : Fin 7) (l : List (Bool × Fin 7)) : due c ((true, s) :: l) = due c l + tallyAt (recvCell (peer c s) s) () N := rfl

/-- What the departure hands back; -/
theorem sent_back (s : Fin 7) (fs : Buf (Elt F) ((ySlot s).view.loc (c : Thread nD τ))) :
    ((ySlot s).view.loc (c : Thread nD τ) ↦[(ySlot s).view.set]{fullShare} fs) ⊢ (rd (F := F) m ρ).payload (sendCell c s) 0 0 := by
  rw [payload_send]; unfold slotAny slotAt
  iintro H; iexists _; iapply (owns_intro (c : Thread nD τ) (ySlot s) fullShare fs); iexact H
/-- and what the arrival hands over. -/
theorem landed (s : Fin 7) (fs : Buf (Elt F) ((ySlot s).view.loc (c : Thread nD τ))) (fd : Buf (Elt F) ((oRow c).view.loc (peer c s : Thread nD τ)))
    (hs : (ySlot s).view.read (Elt F) fs = tile m ρ c s.castSucc) :
    ((oRow c).view.loc (peer c s : Thread nD τ) ↦[(oRow c).view.set]{fullShare} ((oRow c).view.write (Elt F) fd ((ySlot s).view.read (Elt F) fs) Finset.univ))
      ⊢ (rd (F := F) m ρ).payload (recvCell (peer c s) s) 0 0 := by
  rw [payload_recv, src_peer, hs]; unfold rowAt owns
  iintro H; iexists _; isplitr
  rotate_left
  · iexact H
  · ipureintro; exact View.read_write_univ _ _

/-- The copy of step `s`, addressed to `n = peer c s`. -/
theorem wp_copy (s : Fin 7) (n : Dev nD) (hn : n = peer c s) (l : List (Bool × Fin 7)) {hsc : (oRow c : Memref sig (Dev.tc n : Thread nD τ).2.kind .vmem S512x1024 .bf16).view.ref.isScScratch = false}
    {hsrc : (ySlot s).view.WordExact} {hdst : (oRow c).view.WordExact}
    {hsem : DmaTarget.Typed .vmem (.dma (recvSem s)) (.remote (Dev.tc n : Thread nD τ) (oRow c) (.dma (sendSem s)) hsc)}
    {k : PUnit → P (F := F) α} (fs : Buf (Elt F) ((ySlot s).view.loc (c : Thread nD τ))) (fd : Buf (Elt F) ((oRow c).view.loc (peer c s : Thread nD τ)))
    (hs : (ySlot s).view.read (Elt F) fs = tile m ρ c s.castSucc) (W : Waits sig Unit) :
    iprop(cellInv ER (rd m ρ) (K (c, some (false, s))) (sendCell c s) ∗ cellInv ER (rd m ρ) (K (peer c s, some (true, s))) (recvCell (peer c s) s)
        ∗ ((ySlot s).view.loc (c : Thread nD τ) ↦[(ySlot s).view.set]{fullShare} fs) ∗ ((oRow c).view.loc (peer c s : Thread nD τ) ↦[(oRow c).view.set]{fullShare} fd)
        ∗ owes (c : Thread nD τ) (due c ((true, s) :: l)) W
        ∗ dutyTok ER (sendCell c s) 0 0 ∗ reached ER (sendCell c s) 0
        ∗ dutyTok ER (recvCell (peer c s) s) 0 0 ∗ reached ER (recvCell (peer c s) s) 0)
      ⊢ iprop((cred (tallyAt (sendCell c s) () N) ∗ owes (c : Thread nD τ) (due c l) W -∗ WP c (k ⟨⟩) Q)
          -∗ WP c (.op (.enqueueDma (ySlot s) (.remote (Dev.tc n : Thread nD τ) (oRow c) (.dma (sendSem s)) hsc) (.dma (recvSem s)) hsrc hdst hsem) k) Q) := by
  subst hn
  exact Rounds.wp_send_pointsTo 𝒱₀ ER (rd m ρ) (c : Thread nD τ) none (κ₁ := K (c, some (false, s))) (κ₂ := K (peer c s, some (true, s)))
    (r₁ := 0) (r₂ := 0) (d₁ := 0) (d₂ := 0)
    (by rw [duties_send]; exact Finset.mem_singleton_self _) (by rw [duties_recv]; exact Finset.mem_singleton_self _)
    () () N rfl (amount_send m ρ c s 0) (amount_recv m ρ (peer c s) s 0) (due c l) (due_send c s l) (W := W)
    (sent_back m ρ c s fs) (landed m ρ c s fs fd hs)

theorem wp_send (s : Fin 7) (l : List (Bool × Fin 7)) {k : PUnit → P (F := F) α} :
    iprop(ctx m ρ K ∗ slotAt c s (tile m ρ c s.castSucc) ∗ rowAny (peer c s) c ∗ dutyTok ER (sendCell c s) 0 0 ∗ dutyTok ER (recvCell (peer c s) s) 0 0
        ∗ ow c ((true, s) :: l))
      ⊢ iprop((cred (tallyAt (sendCell c s) () N) ∗ ow c l -∗ WP c (k ⟨⟩) Q) -∗ WP c (send c s >>= k) Q) := by
  simp only [send, Prog.lift, Prog.bind_op, Prog.bind_ret]
  unfold slotAt rowAny rowAt ow owns
  iintro ⟨#HC, ⟨%fs, %hs, Hs⟩, ⟨%X, %fd, %hd, Hd⟩, HtS, HtR, ⟨%W, HO⟩⟩ Hk
  iapply (wp_copy m ρ K c s _ (sendTo_eq c s) l fs fd hs W) $$ [Hs Hd HtS HtR HO]
  · isplitr; · iapply (inv_of_ctx m ρ K c (some (false, s))); iexact HC
    isplitr; · iapply (inv_of_ctx m ρ K (peer c s) (some (true, s))); iexact HC
    isplitl [Hs]; · iexact Hs
    isplitl [Hd]; · iexact Hd
    isplitl [HO]; · iexact HO
    isplitl [HtS]; · iexact HtS
    isplitr; · iapply (reached_of_ctx m ρ K c (some (false, s))); iexact HC
    isplitl [HtR]; · iexact HtR
    iapply (reached_of_ctx m ρ K (peer c s) (some (true, s))); iexact HC
  iintro ⟨Hc, HO⟩
  iapply Hk
  isplitl [Hc]; · iexact Hc
  iexists _; iexact HO

/-! ## The arrivals and departures -/

theorem wp_waitRecv (s : Fin 7) {k : PUnit → P (F := F) α} :
    iprop(ctx m ρ K ∗ cred (tallyAt (recvCell c s) () N) ∗ atPos ER (recvCell c s) 0 ∅ 0 ∗ ow c [])
      ⊢ iprop((rowAt c (src c s) (tile m ρ (src c s) s.castSucc) ∗ semVal (recvCell c s) 0 ∗ ow c [] -∗ WP c (k ⟨⟩) Q) -∗ WP c (waitRecv c s >>= k) Q) := by
  simp only [waitRecv, Prog.lift, Prog.bind_op, Prog.bind_ret]
  unfold ow
  iintro ⟨#HC, Hc, Ha, ⟨%W, HO⟩⟩ Hk
  iapply (Rounds.wp_wait_rest_token 𝒱₀ ER (rd m ρ) (c : Thread nD τ) none (κ := K (c, some (true, s)))
      (wpE_waitDma2_eq 𝒱₀ (c : Thread nD τ) none Set.univ) (Set.mem_univ _) () (O := due c []) (W := W) (R := 0) (m := 0) (T := ∅)
      (by rw [Nat.zero_add, expect_recv]; rfl)) $$ [Hc HO Ha]
  · isplitr; · iapply (inv_of_ctx m ρ K c (some (true, s))); iexact HC
    isplitl [Hc]; · iexact Hc
    isplitl [HO]; · iexact HO
    isplitr; · unfold due; rw [MayWait_zero]; iempintro
    iexact Ha
  iintro ⟨HO, Ha, -, Hp⟩
  ihave Hp' := (Entails.of_eq (rest_recv m ρ c s)) $$ Hp
  imod (Rounds.cell_close ER (rd m ρ) (Set.mem_univ (K (c, some (true, s)))) (fun h => h) (R := 0 + 1) (duties_later m ρ (recvCell c s))) $$ [Ha] with Hz
  · isplitr; · iapply (inv_of_ctx m ρ K c (some (true, s))); iexact HC
    iexact Ha
  iapply Hk
  isplitl [Hp']; · iexact Hp'
  isplitl [Hz]; · iexact Hz
  iexists _; iexact HO

theorem wp_waitSend (s : Fin 7) {k : PUnit → P (F := F) α} :
    iprop(ctx m ρ K ∗ cred (tallyAt (sendCell c s) () N) ∗ atPos ER (sendCell c s) 0 ∅ 0 ∗ ow c [])
      ⊢ iprop((slotAny c s ∗ semVal (sendCell c s) 0 ∗ ow c [] -∗ WP c (k ⟨⟩) Q) -∗ WP c (waitSend c s >>= k) Q) := by
  simp only [waitSend, Prog.lift, Prog.bind_op, Prog.bind_ret]
  unfold ow
  iintro ⟨#HC, Hc, Ha, ⟨%W, HO⟩⟩ Hk
  iapply (Rounds.wp_wait_rest_token 𝒱₀ ER (rd m ρ) (c : Thread nD τ) none (κ := K (c, some (false, s)))
      (wpE_waitDma2_eq 𝒱₀ (c : Thread nD τ) none Set.univ) (Set.mem_univ _) () (O := due c []) (W := W) (R := 0) (m := 0) (T := ∅)
      (by rw [Nat.zero_add, expect_send]; rfl)) $$ [Hc HO Ha]
  · isplitr; · iapply (inv_of_ctx m ρ K c (some (false, s))); iexact HC
    isplitl [Hc]; · iexact Hc
    isplitl [HO]; · iexact HO
    isplitr; · unfold due; rw [MayWait_zero]; iempintro
    iexact Ha
  iintro ⟨HO, Ha, -, Hp⟩
  ihave Hp' := (Entails.of_eq (rest_send m ρ c s)) $$ Hp
  imod (Rounds.cell_close ER (rd m ρ) (Set.mem_univ (K (c, some (false, s)))) (fun h => h) (R := 0 + 1) (duties_later m ρ (sendCell c s))) $$ [Ha] with Hz
  · isplitr; · iapply (inv_of_ctx m ρ K c (some (false, s))); iexact HC
    iexact Ha
  iapply Hk
  isplitl [Hp']; · iexact Hp'
  isplitl [Hz]; · iexact Hz
  iexists _; iexact HO

/-- The barrier's cell closes after its round. -/
theorem bar_close : iprop(ctx m ρ K ∗ atPos ER (barCell c) 1 ∅ 0) ⊢ |={Set.univ}=> (semVal (barCell c) 0 : sProp 𝕄) := by
  iintro ⟨#HC, Ha⟩
  iapply (Rounds.cell_close ER (rd m ρ) (Set.mem_univ (K (c, none))) (fun h => h) (R := 1) (duties_later m ρ (barCell c)))
  isplitr; · iapply (inv_of_ctx m ρ K c none); iexact HC
  iexact Ha

/-! ## A whole step -/

/-- A step that starts a further copy: the tile is computed from what the copy left, its slot is filled and sent. -/
theorem wp_round (j j2 : Fin 8) (s : Fin 7) (b : Fin 2) (hj : s.castSucc = j) (hb : par j = b) (hb2 : par j2 = b) (l : List (Bool × Fin 7)) {k : PUnit → P (F := F) α} :
    iprop(ctx m ρ K ∗ flying m c j ∗ slotAny c s ∗ rowAny (peer c s) c ∗ dutyTok ER (sendCell c s) 0 0 ∗ dutyTok ER (recvCell (peer c s) s) 0 0
        ∗ ow c ((true, s) :: l))
      ⊢ iprop((flying m c j2 ∗ cred (tallyAt (sendCell c s) () N) ∗ ow c l -∗ WP c (k ⟨⟩) Q) -∗ WP c (round c (xOf m ρ c) j j2 s >>= k) Q) := by
  subst hj
  have e : (round c (xOf m ρ c) s.castSucc j2 s >>= k) = waitW c s.castSucc >>= fun w => startW c j2 >>= fun _ => fill s (tileV (xOf m ρ c) w) >>= fun _ => send c s >>= k := rfl
  rw [e]
  iintro ⟨#HC, HF, Hs, Hr, HtS, HtR, HO⟩ Hk
  iapply (wp_waitW m ρ K c s.castSucc b hb) $$ [HF HO]
  · isplitr; · iexact HC
    isplitl [HF] <;> iassumption
  iintro %w %hw ⟨Hh, Hg, Hv, HO⟩
  iapply (wp_startW m c j2 b hb2) $$ [Hh Hg Hv]
  · isplitl [Hh]; · iexact Hh
    isplitl [Hg] <;> iassumption
  iintro HF
  rw [show tileV (xOf m ρ c) w = tile m ρ c s.castSucc by rw [tileV_eq, hw]; rfl]
  iapply (wp_fill c s) $$ Hs
  iintro Hs
  iapply (wp_send m ρ K c s l) $$ [Hs Hr HtS HtR HO]
  · isplitr; · iexact HC
    isplitl [Hs]; · iexact Hs
    isplitl [Hr]; · iexact Hr
    isplitl [HtS]; · iexact HtS
    isplitl [HtR] <;> iassumption
  iintro ⟨Hc, HO⟩
  iapply Hk
  isplitl [HF]; · iexact HF
  isplitl [Hc] <;> iassumption

end Cert.Exchange

end
-- ==== Proof.Body.lean ====
/-
# The body's run

The actions of a device's body in program order, each by its rule.
-/
module

public import proofs.«01_k».proof.Proof.Steps

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ) (c : Dev nD)
variable {α : Type} {Q : α → sProp (MT nD τ sig Unit (Elt F) ℕ UU ℕ)}

/-! ## One action at each of the seven steps in turn -/

/-- The action `f` at each of the listed steps, then `p`. -/
def each (f : Fin 7 → P (F := F) PUnit) (p : P (F := F) α) : List (Fin 7) → P (F := F) α
  | [] => p
  | s :: l => f s >>= fun _ => each f p l

def sepL (Φ : Fin 7 → sProp 𝕄) : List (Fin 7) → sProp 𝕄
  | [] => iprop(emp)
  | s :: l => iprop(Φ s ∗ sepL Φ l)

abbrev seven : List (Fin 7) := [0, 1, 2, 3, 4, 5, 6]

theorem sepL_seven (Φ : Fin 7 → sProp 𝕄) : sepL Φ seven = bigSep Finset.univ Φ := by
  rw [bigSep_fin7]
  show iprop(Φ 0 ∗ Φ 1 ∗ Φ 2 ∗ Φ 3 ∗ Φ 4 ∗ Φ 5 ∗ Φ 6 ∗ emp) = _
  rw [show iprop(Φ 6 ∗ emp) = Φ 6 from equiv_iff.mp sep_emp]

theorem wp_each_list {f : Fin 7 → P (F := F) PUnit} {p : P (F := F) α} (R : sProp 𝕄) [BI.Persistent R] (A B : Fin 7 → sProp 𝕄) (O : List (Fin 7) → sProp 𝕄)
    (h : ∀ s l (k : PUnit → P (F := F) α), iprop(R ∗ A s ∗ O (s :: l)) ⊢ iprop((B s ∗ O l -∗ WP c (k ⟨⟩) Q) -∗ WP c (f s >>= k) Q)) (l : List (Fin 7)) :
    iprop(R ∗ sepL A l ∗ O l) ⊢ iprop((sepL B l ∗ O [] -∗ WP c p Q) -∗ WP c (each f p l) Q) := by
  induction l with
  | nil =>
    unfold sepL each
    iintro ⟨-, -, HO⟩ Hk
    iapply Hk
    isplitr; · iempintro
    iexact HO
  | cons s l ih =>
    unfold sepL each
    iintro ⟨#HR, ⟨HA, HL⟩, HO⟩ Hk
    iapply (h s l fun _ => each f p l) $$ [HA HO]
    · isplitr; · iexact HR
      isplitl [HA] <;> iassumption
    iintro ⟨HB, HO⟩
    iapply ih $$ [HL HO]
    · isplitr; · iexact HR
      isplitl [HL] <;> iassumption
    iintro ⟨HL, HO⟩
    iapply Hk
    isplitr [HO]
    · isplitl [HB] <;> iassumption
    iexact HO

theorem wp_each {f : Fin 7 → P (F := F) PUnit} {p : P (F := F) α} (R : sProp 𝕄) [BI.Persistent R] (A B : Fin 7 → sProp 𝕄) (O : List (Fin 7) → sProp 𝕄)
    (h : ∀ s l (k : PUnit → P (F := F) α), iprop(R ∗ A s ∗ O (s :: l)) ⊢ iprop((B s ∗ O l -∗ WP c (k ⟨⟩) Q) -∗ WP c (f s >>= k) Q)) :
    iprop(R ∗ bigSep Finset.univ A ∗ O seven) ⊢ iprop((bigSep Finset.univ B ∗ O [] -∗ WP c p Q) -∗ WP c (each f p seven) Q) := by
  have := wp_each_list c (p := p) R A B O h seven
  rwa [sepL_seven, sepL_seven] at this

/-! ## The three series -/

def sigOut (s : Fin 7) : sProp 𝕄 := iprop(rowAny c (peer c s) ∗ dutyTok ER (barCell (peer c s)) 0 s)
def recvIn (s : Fin 7) : sProp 𝕄 := iprop(cred (tallyAt (recvCell c s) () N) ∗ atPos ER (recvCell c s) 0 ∅ 0)
def recvOut (s : Fin 7) : sProp 𝕄 := iprop(rowAt c (src c s) (tile m ρ (src c s) s.castSucc) ∗ semVal (recvCell c s) 0)
def sendIn (s : Fin 7) : sProp 𝕄 := iprop(cred (tallyAt (sendCell c s) () N) ∗ atPos ER (sendCell c s) 0 ∅ 0)
def sendOut (s : Fin 7) : sProp 𝕄 := iprop(slotAny c s ∗ semVal (sendCell c s) 0)

theorem wp_sigs {p : P (F := F) α} :
    iprop(ctx m ρ K ∗ bigSep Finset.univ (sigOut (F := F) c) ∗ ow c all) ⊢ iprop((ow c sends -∗ WP c p Q) -∗ WP c (each (signal c) p seven) Q) := by
  have h : iprop(ctx m ρ K ∗ bigSep Finset.univ (sigOut (F := F) c) ∗ ow c all)
      ⊢ iprop(((bigSep Finset.univ fun _ : Fin 7 => (iprop(emp) : sProp 𝕄)) ∗ ow c sends -∗ WP c p Q) -∗ WP c (each (signal c) p seven) Q) := wp_each c (p := p) (Q := Q) (f := signal c) (ctx m ρ K) (sigOut (F := F) c) (fun _ => iprop(emp)) (fun l => ow c (l.map (fun s => (false, s)) ++ sends)) fun s l k => by
    unfold sigOut
    iintro ⟨#HC, ⟨Hr, Ht⟩, HO⟩ Hk
    iapply (wp_sig m ρ K c s (l.map (fun s => (false, s)) ++ sends)) $$ [Hr Ht HO]
    · isplitr; · iexact HC
      isplitl [Hr]; · iexact Hr
      isplitl [Ht]; · iexact Ht
      iexact HO
    iintro HO
    iapply Hk
    isplitr; · iempintro
    iexact HO
  iintro H Hk
  iapply h $$ H
  iintro ⟨-, HO⟩
  iapply Hk; iexact HO

theorem wp_recvs {p : P (F := F) α} :
    iprop(ctx m ρ K ∗ bigSep Finset.univ (recvIn (F := F) c) ∗ ow c [])
      ⊢ iprop((bigSep Finset.univ (recvOut m ρ c) ∗ ow c [] -∗ WP c p Q) -∗ WP c (each (waitRecv c) p seven) Q) :=
  wp_each c (ctx m ρ K) (recvIn (F := F) c) (recvOut m ρ c) (fun _ => ow c []) fun s l k => by
    unfold recvIn recvOut
    iintro ⟨#HC, ⟨Hc, Ha⟩, HO⟩ Hk
    iapply (wp_waitRecv m ρ K c s) $$ [Hc Ha HO]
    · isplitr; · iexact HC
      isplitl [Hc]; · iexact Hc
      isplitl [Ha] <;> iassumption
    iintro ⟨Hr, Hv, HO⟩
    iapply Hk
    isplitr [HO]
    · isplitl [Hr] <;> iassumption
    iexact HO

theorem wp_sendsDone {p : P (F := F) α} :
    iprop(ctx m ρ K ∗ bigSep Finset.univ (sendIn (F := F) c) ∗ ow c [])
      ⊢ iprop((bigSep Finset.univ (sendOut c) ∗ ow c [] -∗ WP c p Q) -∗ WP c (each (waitSend c) p seven) Q) :=
  wp_each c (ctx m ρ K) (sendIn (F := F) c) (sendOut c) (fun _ => ow c []) fun s l k => by
    unfold sendIn sendOut
    iintro ⟨#HC, ⟨Hc, Ha⟩, HO⟩ Hk
    iapply (wp_waitSend m ρ K c s) $$ [Hc Ha HO]
    · isplitr; · iexact HC
      isplitl [Hc]; · iexact Hc
      isplitl [Ha] <;> iassumption
    iintro ⟨Hr, Hv, HO⟩
    iapply Hk
    isplitr [HO]
    · isplitl [Hr] <;> iassumption
    iexact HO

/-! ## The body -/

theorem above_sends : ∀ e ∈ sends, above 1 e := by
  intro e he
  have h : e.1 = true := (show ∀ e ∈ sends, e.1 = true by decide) e he
  rcases e with ⟨_ | _, s⟩
  · cases h
  · exact Nat.one_lt_two

/-- The body with its three series gathered. -/
theorem script_eq : script (F := F) c = startW c 0 >>= fun _ => startW c 1 >>= fun _ => each (signal c) (semWaitWord barS 7#32 >>= fun _ => loadX >>= fun x =>
    round c x 0 2 0 >>= fun _ => round c x 1 3 1 >>= fun _ => round c x 2 4 2 >>= fun _ => round c x 3 5 3 >>= fun _ => round c x 4 6 4 >>= fun _ => round c x 5 7 5 >>= fun _ =>
    waitW c 6 >>= fun w => fill 6 (tileV x w) >>= fun _ => send c 6 >>= fun _ => waitW c 7 >>= fun w => keep c (tileV x w) >>= fun _ =>
    each (waitRecv c) (each (waitSend c) (pure ⟨⟩) seven) seven) seven := rfl

/-- What step `s` starts from: its slot, the row block it may write, its two duties. -/
def kit (s : Fin 7) : sProp 𝕄 := iprop(slotAny c s ∗ dutyTok ER (sendCell c s) 0 0 ∗ dutyTok ER (recvCell (peer c s) s) 0 0)
def sendC (s : Fin 7) : sProp 𝕄 := cred (tallyAt (sendCell c s) () N)
def sendAt (s : Fin 7) : sProp 𝕄 := atPos ER (sendCell c s) 0 ∅ 0

/-- The permissions the barrier hands over, by the step that uses them. -/
theorem permits : (bigSep Finset.univ fun d : Fin 7 => (rowAny (src c d) c : sProp 𝕄)) ⊢ bigSep Finset.univ fun s : Fin 7 => rowAny (peer c s) c := by
  rw [bigSep_univ_equiv (⟨opp, opp, by decide, by decide⟩ : Fin 7 ≃ Fin 7) (fun d : Fin 7 => (rowAny (src c d) c : sProp 𝕄))]
  refine bigSep_mono fun s _ => ?_
  show (rowAny (src c (opp s)) c : sProp 𝕄) ⊢ rowAny (peer c s) c
  rw [peer_opp]

/-- A step that starts a further copy, with its kit. -/
theorem wp_step (j j2 : Fin 8) (s : Fin 7) (b : Fin 2) (hj : s.castSucc = j) (hb : par j = b) (hb2 : par j2 = b) (l : List (Bool × Fin 7)) {k : PUnit → P (F := F) α} :
    iprop(ctx m ρ K ∗ flying m c j ∗ kit c s ∗ rowAny (peer c s) c ∗ ow c ((true, s) :: l))
      ⊢ iprop((flying m c j2 ∗ sendC c s ∗ ow c l -∗ WP c (k ⟨⟩) Q) -∗ WP c (round c (xOf m ρ c) j j2 s >>= k) Q) := by
  unfold kit sendC
  iintro ⟨#HC, HF, ⟨Hs, HtS, HtR⟩, Hr, HO⟩ Hk
  iapply (wp_round m ρ K c j j2 s b hj hb hb2 l) $$ [HF Hs Hr HtS HtR HO]
  · isplitr; · iexact HC
    isplitl [HF]; · iexact HF
    isplitl [Hs]; · iexact Hs
    isplitl [Hr]; · iexact Hr
    isplitl [HtS]; · iexact HtS
    isplitl [HtR] <;> iassumption
  iexact Hk

/-- The last step that sends. -/
theorem wp_last {k : PUnit → P (F := F) α} :
    iprop(ctx m ρ K ∗ flying m c 6 ∗ kit c 6 ∗ rowAny (peer c 6) c ∗ ow c [(true, 6)])
      ⊢ iprop((halfAny c 0 ∗ gWhole m c 0 ∗ semVal ((c : Thread nD τ), .dma (wSem 0)) 0 ∗ sendC c 6 ∗ ow c [] -∗ WP c (k ⟨⟩) Q)
        -∗ WP c (waitW c 6 >>= fun w => fill 6 (tileV (xOf m ρ c) w) >>= fun _ => send c 6 >>= k) Q) := by
  unfold kit sendC
  iintro ⟨#HC, HF, ⟨Hs, HtS, HtR⟩, Hr, HO⟩ Hk
  iapply (wp_waitW m ρ K c 6 0 rfl) $$ [HF HO]
  · isplitr; · iexact HC
    isplitl [HF] <;> iassumption
  iintro %w %hw ⟨Hh, Hg, Hv, HO⟩
  rw [show tileV (xOf m ρ c) w = tile m ρ c (6 : Fin 7).castSucc by rw [tileV_eq, hw]; rfl]
  iapply (wp_fill c 6) $$ Hs
  iintro Hs
  iapply (wp_send m ρ K c 6 []) $$ [Hs Hr HtS HtR HO]
  · isplitr; · iexact HC
    isplitl [Hs]; · iexact Hs
    isplitl [Hr]; · iexact Hr
    isplitl [HtS]; · iexact HtS
    isplitl [HtR] <;> iassumption
  iintro ⟨Hc, HO⟩
  iapply Hk
  isplitl [Hh]; · iexact Hh
  isplitl [Hg]; · iexact Hg
  isplitl [Hv]; · iexact Hv
  isplitl [Hc] <;> iassumption

/-- The own tile. -/
theorem wp_own {k : PUnit → P (F := F) α} :
    iprop(ctx m ρ K ∗ flying m c 7 ∗ rowAny c c ∗ ow c [])
      ⊢ iprop((halfAny c 1 ∗ gWhole m c 1 ∗ semVal ((c : Thread nD τ), .dma (wSem 1)) 0 ∗ rowAt c c (tile m ρ c 7) ∗ ow c [] -∗ WP c (k ⟨⟩) Q)
        -∗ WP c (waitW c 7 >>= fun w => keep c (tileV (xOf m ρ c) w) >>= k) Q) := by
  iintro ⟨#HC, HF, Hr, HO⟩ Hk
  iapply (wp_waitW m ρ K c 7 1 rfl) $$ [HF HO]
  · isplitr; · iexact HC
    isplitl [HF] <;> iassumption
  iintro %w %hw ⟨Hh, Hg, Hv, HO⟩
  rw [show tileV (xOf m ρ c) w = tile m ρ c 7 by rw [tileV_eq, hw]; rfl]
  iapply (wp_keep c) $$ Hr
  iintro Hr
  iapply Hk
  isplitl [Hh]; · iexact Hh
  isplitl [Hg]; · iexact Hg
  isplitl [Hv]; · iexact Hv
  isplitl [Hr] <;> iassumption

/-- The weight's side of a device at rest: both halves, both shares of the weight, both semaphores. -/
def wSide (b : Fin 2) : sProp 𝕄 := iprop(halfAny c b ∗ gWhole m c b ∗ semVal ((c : Thread nD τ), .dma (wSem b)) 0)

/-- What the body starts from; -/
def pre : sProp 𝕄 :=
  iprop(wSide m c 0 ∗ wSide m c 1
    ∗ (bigSep Finset.univ (sigOut (F := F) c) ∗ ow c all)
    ∗ (cred (tallyAt (barCell c) () 7) ∗ atPos ER (barCell c) 0 ∅ 0)
    ∗ (((c : Thread nD τ).loc cc0_stg0_0) ↦{fullShare} xOf m ρ c)
    ∗ bigSep Finset.univ (kit (F := F) c) ∗ rowAny c c
    ∗ bigSep Finset.univ (recvIn (F := F) c) ∗ bigSep Finset.univ (sendAt (F := F) c))
/-- and what it leaves. -/
def post : sProp 𝕄 :=
  iprop(wSide m c 0 ∗ wSide m c 1 ∗ semVal (barCell c) 0 ∗ (((c : Thread nD τ).loc cc0_stg0_0) ↦{fullShare} xOf m ρ c)
    ∗ rowAt c c (tile m ρ c 7) ∗ bigSep Finset.univ (recvOut m ρ c) ∗ bigSep Finset.univ (sendOut (F := F) c) ∗ ow c [])

theorem run_script (Kt : PUnit → sProp 𝕄) : iprop(ctx m ρ K ∗ pre m ρ c ∗ (post m ρ c -∗ Kt ⟨⟩)) ⊢ WP c (script c) Kt := by
  rw [script_eq]
  unfold pre wSide
  iintro ⟨#HC, ⟨⟨Hh0, Hg0, Hv0⟩, ⟨Hh1, Hg1, Hv1⟩, ⟨Hsig, HO⟩, ⟨HcB, HaB⟩, Hx, Hkit, Hown, Hrecv, HsA⟩, Hk⟩
  iapply (wp_startW m c 0 0 rfl) $$ [Hh0 Hg0 Hv0]
  · isplitl [Hh0]; · iexact Hh0
    isplitl [Hg0] <;> iassumption
  iintro HF0
  iapply (wp_startW m c 1 1 rfl) $$ [Hh1 Hg1 Hv1]
  · isplitl [Hh1]; · iexact Hh1
    isplitl [Hg1] <;> iassumption
  iintro HF1
  iapply (wp_sigs m ρ K c) $$ [Hsig HO]
  · isplitr; · iexact HC
    isplitl [Hsig] <;> iassumption
  iintro HO
  iapply (wp_waitBar m ρ K c sends above_sends) $$ [HcB HaB HO]
  · isplitr; · iexact HC
    isplitl [HcB]; · iexact HcB
    isplitl [HaB] <;> iassumption
  iintro ⟨Hper, HaB, HO⟩
  ihave Hper' := (permits c) $$ Hper
  iapply (wp_loadX c) $$ Hx
  iintro Hx
  ihave Hper := (Entails.of_eq (bigSep_fin7 _)) $$ Hper'
  icases Hper with ⟨Hp0, Hp1, Hp2, Hp3, Hp4, Hp5, Hp6⟩
  ihave Hkit' := (Entails.of_eq (bigSep_fin7 _)) $$ Hkit
  icases Hkit' with ⟨Hk0, Hk1, Hk2, Hk3, Hk4, Hk5, Hk6⟩
  iapply (wp_step m ρ K c 0 2 0 0 rfl rfl rfl _) $$ [HF0 Hk0 Hp0 HO]
  · isplitr; · iexact HC
    isplitl [HF0]; · iexact HF0
    isplitl [Hk0]; · iexact Hk0
    isplitl [Hp0] <;> iassumption
  iintro ⟨HF0, Hc0, HO⟩
  iapply (wp_step m ρ K c 1 3 1 1 rfl rfl rfl _) $$ [HF1 Hk1 Hp1 HO]
  · isplitr; · iexact HC
    isplitl [HF1]; · iexact HF1
    isplitl [Hk1]; · iexact Hk1
    isplitl [Hp1] <;> iassumption
  iintro ⟨HF1, Hc1, HO⟩
  iapply (wp_step m ρ K c 2 4 2 0 rfl rfl rfl _) $$ [HF0 Hk2 Hp2 HO]
  · isplitr; · iexact HC
    isplitl [HF0]; · iexact HF0
    isplitl [Hk2]; · iexact Hk2
    isplitl [Hp2] <;> iassumption
  iintro ⟨HF0, Hc2, HO⟩
  iapply (wp_step m ρ K c 3 5 3 1 rfl rfl rfl _) $$ [HF1 Hk3 Hp3 HO]
  · isplitr; · iexact HC
    isplitl [HF1]; · iexact HF1
    isplitl [Hk3]; · iexact Hk3
    isplitl [Hp3] <;> iassumption
  iintro ⟨HF1, Hc3, HO⟩
  iapply (wp_step m ρ K c 4 6 4 0 rfl rfl rfl _) $$ [HF0 Hk4 Hp4 HO]
  · isplitr; · iexact HC
    isplitl [HF0]; · iexact HF0
    isplitl [Hk4]; · iexact Hk4
    isplitl [Hp4] <;> iassumption
  iintro ⟨HF0, Hc4, HO⟩
  iapply (wp_step m ρ K c 5 7 5 1 rfl rfl rfl _) $$ [HF1 Hk5 Hp5 HO]
  · isplitr; · iexact HC
    isplitl [HF1]; · iexact HF1
    isplitl [Hk5]; · iexact Hk5
    isplitl [Hp5] <;> iassumption
  iintro ⟨HF1, Hc5, HO⟩
  iapply (wp_last m ρ K c) $$ [HF0 Hk6 Hp6 HO]
  · isplitr; · iexact HC
    isplitl [HF0]; · iexact HF0
    isplitl [Hk6]; · iexact Hk6
    isplitl [Hp6] <;> iassumption
  iintro ⟨Hh0, Hg0, Hv0, Hc6, HO⟩
  iapply (wp_own m ρ K c) $$ [HF1 Hown HO]
  · isplitr; · iexact HC
    isplitl [HF1]; · iexact HF1
    isplitl [Hown] <;> iassumption
  iintro ⟨Hh1, Hg1, Hv1, Hown, HO⟩
  iapply (wp_recvs m ρ K c) $$ [Hrecv HO]
  · isplitr; · iexact HC
    isplitl [Hrecv] <;> iassumption
  iintro ⟨Hrecv, HO⟩
  iapply (wp_sendsDone m ρ K c) $$ [Hc0 Hc1 Hc2 Hc3 Hc4 Hc5 Hc6 HsA HO]
  · isplitr; · iexact HC
    isplitr [HO]
    · iapply (show iprop(bigSep Finset.univ (sendC (F := F) c) ∗ bigSep Finset.univ (sendAt (F := F) c)) ⊢ bigSep Finset.univ (sendIn (F := F) c) from
        Entails.of_eq (bigSep_sep' _ _ _).symm)
      isplitr [HsA]
      · iapply (Entails.of_eq (bigSep_fin7 _).symm)
        isplitl [Hc0]; · iexact Hc0
        isplitl [Hc1]; · iexact Hc1
        isplitl [Hc2]; · iexact Hc2
        isplitl [Hc3]; · iexact Hc3
        isplitl [Hc4]; · iexact Hc4
        isplitl [Hc5] <;> iassumption
      iexact HsA
    iexact HO
  iintro ⟨Hsend, HO⟩
  imod (bar_close m ρ K c) $$ [HaB] with HzB
  · isplitr; · iexact HC
    iexact HaB
  rw [Prog.pure_eq_ret, wp_ret]; imodintro
  iapply Hk
  unfold post wSide
  isplitl [Hh0 Hg0 Hv0]
  · isplitl [Hh0]; · iexact Hh0
    isplitl [Hg0] <;> iassumption
  isplitl [Hh1 Hg1 Hv1]
  · isplitl [Hh1]; · iexact Hh1
    isplitl [Hg1] <;> iassumption
  isplitl [HzB]; · iexact HzB
  isplitl [Hx]; · iexact Hx
  isplitl [Hown]; · iexact Hown
  isplitl [Hrecv]; · iexact Hrecv
  isplitl [Hsend] <;> iassumption

end Cert.Exchange

end
-- ==== Proof.Region.lean ====
/-
# The launched region

A device's buffers taken apart into the body's pieces and put together again, and the body's obligation to the launch.
-/
module

public import proofs.«01_k».proof.Proof.Body
public import proofs.«01_k».proof.Proof.Gen.KernelIdeal.Points

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ) (c : Dev nD)

/-! ## Pieces of a buffer -/

/-- A memref owned at some contents: its elements, at some contents of the buffer. -/
theorem owns_any {sp : Space} {sh : Shape} {e : EltTy} (M : Memref sig .tc sp sh e) :
    (iprop(∃ X, owns (c : Thread nD τ) M fullShare X) : sProp 𝕄) = iprop(∃ f, M.view.loc (c : Thread nD τ) ↦[M.view.set]{fullShare} f) := by
  have h₁ : (iprop(∃ X, owns (c : Thread nD τ) M fullShare X) : sProp 𝕄) ⊢ iprop(∃ f, M.view.loc (c : Thread nD τ) ↦[M.view.set]{fullShare} f) := by
    unfold owns
    iintro ⟨%X, %f, -, H⟩
    iexists f; iexact H
  have h₂ : (iprop(∃ f, M.view.loc (c : Thread nD τ) ↦[M.view.set]{fullShare} f) : sProp 𝕄) ⊢ iprop(∃ X, owns (c : Thread nD τ) M fullShare X) := by
    iintro ⟨%f, H⟩
    iexists (M.view.read (Elt F) f)
    iapply (owns_intro (c : Thread nD τ) M fullShare f); iexact H
  exact equiv_iff.mp ⟨h₁, h₂⟩

theorem some_of {β : Type} (Φ : β → sProp 𝕄) (b : β) : Φ b ⊢ iprop(∃ b, Φ b) := by
  iintro H; iexists b; iexact H

theorem slotAny_eq (s : Fin 7) : (slotAny c s : sProp 𝕄)
    = iprop(∃ f : Buf (Elt F) ((c : Thread nD τ).loc cc0_scratch2), ((c : Thread nD τ).loc cc0_scratch2) ↦[(slotRect s).set]{fullShare} f) := by
  rw [← ySlot_set s]; exact owns_any c (ySlot s)
theorem halfAny_eq (b : Fin 2) : (halfAny c b : sProp 𝕄)
    = iprop(∃ f : Buf (Elt F) ((c : Thread nD τ).loc cc0_scratch0), ((c : Thread nD τ).loc cc0_scratch0) ↦[(halfRect b).set]{fullShare} f) := by
  rw [← wHalf_set b]; exact owns_any c (wHalf b)

def ySome : sProp 𝕄 := iprop(∃ f : Buf (Elt F) ((c : Thread nD τ).loc cc0_scratch2), ((c : Thread nD τ).loc cc0_scratch2) ↦{fullShare} f)
def wSome : sProp 𝕄 := iprop(∃ f : Buf (Elt F) ((c : Thread nD τ).loc cc0_scratch0), ((c : Thread nD τ).loc cc0_scratch0) ↦{fullShare} f)

theorem y_split : (ySome c : sProp 𝕄) ⊢ bigSep Finset.univ fun s : Fin 7 => slotAny c s := by
  unfold ySome
  iintro ⟨%f, H⟩
  iapply (show (((c : Thread nD τ).loc cc0_scratch2) ↦{fullShare} f : sProp 𝕄) ⊢ bigSep Finset.univ fun s : Fin 7 => slotAny c s from
    (Entails.of_eq (Ring.pointsTo_blocks (ℓ := (c : Thread nD τ).loc cc0_scratch2) (fun s : Fin 7 => (slotRect s).set) slot_disjoint slot_cover f)).trans
      (bigSep_mono fun s _ => by
        rw [slotAny_eq]
        exact some_of _ f))
  iexact H
theorem w_split : (wSome c : sProp 𝕄) ⊢ bigSep Finset.univ fun b : Fin 2 => halfAny c b := by
  unfold wSome
  iintro ⟨%f, H⟩
  iapply (show (((c : Thread nD τ).loc cc0_scratch0) ↦{fullShare} f : sProp 𝕄) ⊢ bigSep Finset.univ fun b : Fin 2 => halfAny c b from
    (Entails.of_eq (Ring.pointsTo_blocks (ℓ := (c : Thread nD τ).loc cc0_scratch0) (fun b : Fin 2 => (halfRect b).set) half_disjoint half_cover f)).trans
      (bigSep_mono fun s _ => by
        rw [halfAny_eq]
        exact some_of _ f))
  iexact H
include m in
theorem y_join : (bigSep Finset.univ fun s : Fin 7 => slotAny c s) ⊢ (ySome c : sProp 𝕄) := by
  rw [bigSep_congr fun s _ => slotAny_eq c s]
  exact Ring.pointsTo_blocks_join_exists (ℓ := (c : Thread nD τ).loc cc0_scratch2) (fun s : Fin 7 => (slotRect s).set) slot_disjoint slot_cover
    (m ((c : Thread nD τ).loc cc0_scratch2))
include m in
theorem w_join : (bigSep Finset.univ fun b : Fin 2 => halfAny c b) ⊢ (wSome c : sProp 𝕄) := by
  rw [bigSep_congr fun s _ => halfAny_eq c s]
  exact Ring.pointsTo_blocks_join_exists (ℓ := (c : Thread nD τ).loc cc0_scratch0) (fun s : Fin 2 => (halfRect s).set) half_disjoint half_cover
    (m ((c : Thread nD τ).loc cc0_scratch0))

/-- The weight at its two shares. -/
theorem g_split : (gLoc c ↦{fullShare} m (gLoc c) : sProp 𝕄) ⊣⊢ iprop(gWhole m c 0 ∗ gWhole m c 1) :=
  pointsTo_share (PosShare.mem_left_op_right _)

/-! ## The result -/

set_option backward.proofsInPublic true in
/-- Device `c`'s columns of the result: row block `b` is the tile that device `b` computed for it. -/
def outAt : (cc0_stg1_0 : Ref sig .tc).ty.Contents (Elt F) := fun i =>
  tile m ρ (⟨(i 0).val / 512, Nat.div_lt_of_lt_mul (i 0).isLt⟩ : Dev nD) (stepOf (⟨(i 0).val / 512, Nat.div_lt_of_lt_mul (i 0).isLt⟩ : Dev nD) c)
    (Fin.cons (⟨(i 0).val % 512, Nat.mod_lt _ (by decide)⟩ : Fin 512) (Fin.cons (⟨(i 1).val, (i 1).isLt⟩ : Fin 1024) finZeroElim))

theorem outAt_row (b : Dev nD) : (fun j => outAt m ρ c ((rowRect b).emb j)) = tile m ρ b (stepOf b c) := by
  funext j
  have e0 : ((rowRect b).emb j 0).val = 512 * b.val + (j 0).val := by
    simp only [Rect.emb_apply, Rect.off_unit, Rect.stride_unit, Nat.one_mul, k0_off2_eq]; rfl
  have e1 : ((rowRect b).emb j 1).val = (j 1).val := by
    simp only [Rect.emb_apply, Rect.off_unit, Rect.stride_unit, Nat.one_mul, k0_off2_eq]; exact Nat.zero_add _
  have hj : (j 0).val < 512 := (j 0).isLt
  have hb : (⟨((rowRect b).emb j 0).val / 512, Nat.div_lt_of_lt_mul ((rowRect b).emb j 0).isLt⟩ : Dev nD) = b :=
    Fin.ext (by show ((rowRect b).emb j 0).val / 512 = b.val; omega)
  unfold outAt
  rw [hb]
  congr 1
  funext a
  refine Fin.cases ?_ (fun a => ?_) a
  · exact Fin.ext (by show ((rowRect b).emb j 0).val % 512 = (j 0).val; omega)
  · refine Fin.cases ?_ (fun a => a.elim0) a
    exact Fin.ext e1

theorem out_split (f : (cc0_stg1_0 : Ref sig .tc).ty.Contents (Elt F)) :
    (((c : Thread nD τ).loc cc0_stg1_0) ↦{fullShare} f : sProp 𝕄) ⊢ iprop(rowAny c c ∗ bigSep Finset.univ fun s : Fin 7 => rowAny c (peer c s)) := by
  rw [bigSep_fin7]
  refine BIBase.Entails.trans ?_ (Entails.of_eq (bigSep_univ_eq_bigSepL _ (univ_peers c) (nodup_peers c) fun b => rowAny (F := F) c b))
  refine (Entails.of_eq (owns_whole (c : Thread nD τ) cc0_stg1_0 fullShare f).symm).trans ?_
  refine (owns_rects (c : Thread nD τ) oM fullShare rowRect (fun _ _ => rfl) row_disjoint row_cover f).trans (bigSep_mono fun b _ => ?_)
  exact some_of (fun X => rowAt (F := F) c b X) _

theorem out_join : iprop(rowAt c c (tile m ρ c 7) ∗ bigSep Finset.univ fun s : Fin 7 => rowAt c (src c s) (tile m ρ (src c s) s.castSucc))
    ⊢ (((c : Thread nD τ).loc cc0_stg1_0) ↦{fullShare} outAt m ρ c : sProp 𝕄) := by
  have h : iprop(rowAt c c (tile m ρ c 7) ∗ bigSep Finset.univ fun s : Fin 7 => rowAt c (src c s) (tile m ρ (src c s) s.castSucc))
      = (bigSep Finset.univ fun b : Dev nD => rowAt c b (tile m ρ b (stepOf b c)) : sProp 𝕄) := by
    rw [bigSep_univ_eq_bigSepL _ (univ_srcs c) (nodup_srcs c), bigSep_fin7]
    show _ = iprop(rowAt c c (tile m ρ c (stepOf c c)) ∗ rowAt c (src c 0) (tile m ρ (src c 0) (stepOf (src c 0) c)) ∗ rowAt c (src c 1) (tile m ρ (src c 1) (stepOf (src c 1) c))
      ∗ rowAt c (src c 2) (tile m ρ (src c 2) (stepOf (src c 2) c)) ∗ rowAt c (src c 3) (tile m ρ (src c 3) (stepOf (src c 3) c)) ∗ rowAt c (src c 4) (tile m ρ (src c 4) (stepOf (src c 4) c))
      ∗ rowAt c (src c 5) (tile m ρ (src c 5) (stepOf (src c 5) c)) ∗ rowAt c (src c 6) (tile m ρ (src c 6) (stepOf (src c 6) c)))
    simp only [stepOf_self, stepOf_src]
  rw [h, bigSep_congr fun b _ => by rw [← outAt_row m ρ c b]]
  exact (owns_of_rects (c : Thread nD τ) oM fullShare rowRect (fun _ _ => rfl) row_disjoint row_cover (outAt m ρ c)).trans
    (Entails.of_eq (owns_whole (c : Thread nD τ) cc0_stg1_0 fullShare (outAt m ρ c)))

/-! ## Before and after the body -/

theorem bigSep_fin2 (Φ : Fin 2 → sProp 𝕄) : bigSep Finset.univ Φ = iprop(Φ 0 ∗ Φ 1) :=
  bigSep_univ_eq_bigSepL [0, 1] (by decide) (by decide) Φ

/-- What a device holds of its step `s`: where it stands at its own two cells, and the three duties it pays. -/
def deal (s : Fin 7) : sProp 𝕄 :=
  iprop(atPos ER (sendCell c s) 0 ∅ 0 ∗ atPos ER (recvCell c s) 0 ∅ 0 ∗ dutyTok ER (barCell (peer c s)) 0 s
    ∗ dutyTok ER (sendCell c s) 0 0 ∗ dutyTok ER (recvCell (peer c s) s) 0 0)
/-- The protocol's part of a device, all steps; the credits for what the others pay it. -/
def ghost : sProp 𝕄 := iprop(atPos ER (barCell c) 0 ∅ 0 ∗ bigSep Finset.univ (deal (F := F) c))
def credits : sProp 𝕄 := iprop(cred (tallyAt (barCell c) () 7) ∗ bigSep Finset.univ fun s : Fin 7 => cred (tallyAt (recvCell c s) () N))
def wSems : sProp 𝕄 := bigSep Finset.univ fun b : Fin 2 => semVal ((c : Thread nD τ), .dma (wSem b)) 0
def stepSems : sProp 𝕄 :=
  iprop((bigSep Finset.univ fun s : Fin 7 => semVal (sendCell c s) 0) ∗ bigSep Finset.univ fun s : Fin 7 => semVal (recvCell c s) 0)

def start : sProp 𝕄 :=
  iprop((∃ K, ctx m ρ K) ∗ ghost c ∗ credits c ∗ wSems c ∗ (gLoc c ↦{fullShare} m (gLoc c)))
def Φ₀ : sProp 𝕄 := iprop(start m ρ c ∗ wSome c ∗ ySome c)
def Φ₁ : sProp 𝕄 := iprop((gLoc c ↦{fullShare} m (gLoc c)) ∗ wSome c ∗ ySome c ∗ wSems c ∗ stepSems c ∗ semVal (barCell c) 0)

theorem gather (f : (cc0_stg1_0 : Ref sig .tc).ty.Contents (Elt F)) :
    iprop((ghost c ∗ credits c ∗ wSems c ∗ (gLoc c ↦{fullShare} m (gLoc c))) ∗ wSome c ∗ ySome c
        ∗ (((c : Thread nD τ).loc cc0_stg0_0) ↦{fullShare} xOf m ρ c) ∗ (((c : Thread nD τ).loc cc0_stg1_0) ↦{fullShare} f) ∗ ow c all)
      ⊢ (pre m ρ c : sProp 𝕄) := by
  have hd : bigSep Finset.univ (deal (F := F) c) = iprop(bigSep Finset.univ (sendAt (F := F) c) ∗ (bigSep Finset.univ fun s : Fin 7 => atPos ER (recvCell c s) 0 ∅ 0)
      ∗ (bigSep Finset.univ fun s : Fin 7 => dutyTok ER (barCell (peer c s)) 0 s)
      ∗ bigSep Finset.univ fun s : Fin 7 => iprop(dutyTok ER (sendCell c s) 0 0 ∗ dutyTok ER (recvCell (peer c s) s) 0 0)) := by
    rw [← bigSep_sep', ← bigSep_sep', ← bigSep_sep']; rfl
  unfold ghost credits wSems pre wSide
  rw [hd, bigSep_fin2]
  iintro ⟨⟨⟨HaB, HsA, HrA, HtB, Ht⟩, ⟨HcB, Hc⟩, ⟨Hv0, Hv1⟩, Hg⟩, Hw, Hy, Hx, Ho, HO⟩
  ihave Hw' := ((w_split c).trans (Entails.of_eq (bigSep_fin2 _))) $$ Hw
  icases Hw' with ⟨Hh0, Hh1⟩
  ihave Hg' := (g_split m c).1 $$ Hg
  icases Hg' with ⟨Hg0, Hg1⟩
  ihave Hy' := (y_split c) $$ Hy
  ihave Ho' := (out_split c f) $$ Ho
  icases Ho' with ⟨Hown, Hper⟩
  isplitl [Hh0 Hg0 Hv0]
  · isplitl [Hh0]; · iexact Hh0
    isplitl [Hg0] <;> iassumption
  isplitl [Hh1 Hg1 Hv1]
  · isplitl [Hh1]; · iexact Hh1
    isplitl [Hg1] <;> iassumption
  isplitl [Hper HtB HO]
  · isplitr [HO]
    · iapply (show iprop((bigSep Finset.univ fun s : Fin 7 => rowAny c (peer c s)) ∗ bigSep Finset.univ fun s : Fin 7 => dutyTok ER (barCell (peer c s)) 0 s)
        ⊢ bigSep Finset.univ (sigOut (F := F) c) from Entails.of_eq (bigSep_sep' _ _ _).symm)
      isplitl [Hper] <;> iassumption
    iexact HO
  isplitl [HcB HaB]
  · isplitl [HcB] <;> iassumption
  isplitl [Hx]; · iexact Hx
  isplitl [Hy' Ht]
  · iapply (show iprop((bigSep Finset.univ fun s : Fin 7 => slotAny c s)
        ∗ bigSep Finset.univ fun s : Fin 7 => iprop(dutyTok ER (sendCell c s) 0 0 ∗ dutyTok ER (recvCell (peer c s) s) 0 0))
      ⊢ bigSep Finset.univ (kit (F := F) c) from Entails.of_eq (bigSep_sep' _ _ _).symm)
    isplitl [Hy'] <;> iassumption
  isplitl [Hown]; · iexact Hown
  isplitl [Hc HrA]
  · iapply (show iprop((bigSep Finset.univ fun s : Fin 7 => cred (tallyAt (recvCell c s) () N)) ∗ bigSep Finset.univ fun s : Fin 7 => atPos ER (recvCell c s) 0 ∅ 0)
      ⊢ bigSep Finset.univ (recvIn (F := F) c) from Entails.of_eq (bigSep_sep' _ _ _).symm)
    isplitl [Hc] <;> iassumption
  iexact HsA

theorem scatter : (post m ρ c : sProp 𝕄)
    ⊢ iprop(Φ₁ m c ∗ (((c : Thread nD τ).loc cc0_stg0_0) ↦{fullShare} xOf m ρ c) ∗ (((c : Thread nD τ).loc cc0_stg1_0) ↦{fullShare} outAt m ρ c) ∗ ow c []) := by
  have hr : bigSep Finset.univ (recvOut m ρ c) = iprop((bigSep Finset.univ fun s : Fin 7 => rowAt c (src c s) (tile m ρ (src c s) s.castSucc))
      ∗ bigSep Finset.univ fun s : Fin 7 => semVal (recvCell c s) 0) := bigSep_sep' _ _ _
  have hs : bigSep Finset.univ (sendOut (F := F) c) = iprop((bigSep Finset.univ fun s : Fin 7 => slotAny c s)
      ∗ bigSep Finset.univ fun s : Fin 7 => semVal (sendCell c s) 0) := bigSep_sep' _ _ _
  unfold post Φ₁ wSide wSems stepSems
  rw [hr, hs, bigSep_fin2]
  iintro ⟨⟨Hh0, Hg0, Hv0⟩, ⟨Hh1, Hg1, Hv1⟩, HzB, Hx, Hown, ⟨Hrow, HzR⟩, ⟨Hslot, HzS⟩, HO⟩
  isplitr [Hx Hown Hrow HO]
  · isplitl [Hg0 Hg1]
    · iapply (g_split m c).2
      isplitl [Hg0] <;> iassumption
    isplitl [Hh0 Hh1]
    · iapply ((Entails.of_eq (bigSep_fin2 fun b => halfAny (F := F) c b).symm).trans (w_join m c))
      isplitl [Hh0] <;> iassumption
    isplitl [Hslot]
    · iapply (y_join m c); iexact Hslot
    isplitl [Hv0 Hv1]
    · isplitl [Hv0] <;> iassumption
    isplitl [HzS HzR]
    · isplitl [HzS] <;> iassumption
    iexact HzB
  isplitl [Hx]; · iexact Hx
  isplitl [Hown Hrow]
  · iapply (out_join m ρ c)
    isplitl [Hown] <;> iassumption
  iexact HO

/-! ## The obligation -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xOf m ρ c
    | ⟨1, _⟩ => outAt m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

/-- A staging buffer at contents `X`. -/
abbrev stg (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost : sProp 𝕄 :=
  iprop(Φ₁ m c ∗ (dats m ρ 0 c).owesAt () t0_0.succ ∗ stg c cc0_stg0_0 (xOf m ρ c) ∗ stg c cc0_stg1_0 (outAt m ρ c))

theorem sound_body : bodyPre m ρ c ⊢ WP c (script c) fun _ => bodyPost m ρ c := by
  unfold bodyPre Φ₀ start
  iintro ⟨⟨⟨⟨%K, #HC⟩, Hrest⟩, Hw, Hy⟩, Ho, ⟨%d0, %g0, %hg0, Hx⟩, ⟨%d1, %g1, -, Hout⟩⟩
  have hx : g0 = xOf m ρ c := by rw [hg0]; unfold Dat.before; rw [if_pos (fetch0_0 t0_0)]; rfl
  subst hx
  unfold Dat.owesAt Pipeline.owesWithin
  icases Ho with ⟨%W, -, HO⟩
  rw [show (dats m ρ 0 c).owed t0_0.castSucc = due c all from rfl]
  iapply (run_script m ρ K c fun _ => bodyPost m ρ c)
  isplitr; · iexact HC
  isplitl
  · iapply (gather m ρ c g1)
    isplitl [Hrest]; · iexact Hrest
    isplitl [Hw]; · iexact Hw
    isplitl [Hy]; · iexact Hy
    isplitl [Hx]; · iexact Hx
    isplitl [Hout]; · iexact Hout
    unfold ow; iexists W; iexact HO
  iintro H
  ihave H' := (scatter m ρ c) $$ H
  icases H' with ⟨HΦ, Hx, Hout, HO⟩
  unfold bodyPost Dat.owesAt Pipeline.owesWithin ow
  icases HO with ⟨%W', HO⟩
  rw [show (dats m ρ 0 c).owed t0_0.succ = due c [] from rfl]
  isplitl [HΦ]; · iexact HΦ
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
/-- The body's obligation to the launch. -/
theorem body_obligation : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 2) ∗ Φ (1 : Fin 2)) from fun Φ => bigSep_W0 Φ,
    show ∀ Φ : Fin cfg0.W → sProp 𝕄, bigSep Finset.univ Φ = iprop(Φ (0 : Fin 2) ∗ Φ (1 : Fin 2)) from fun Φ => bigSep_W0 Φ]
  simp only [owns_whole_eq]
  show bodyPre m ρ c ⊢ WP c (cc0_body xM (Memref.isWhole_whole _) gM (Memref.isWhole_whole _) oM (Memref.isWhole_whole _) wM (Memref.isWhole_whole _)
    cc0_scratch1 yM (Memref.isWhole_whole _) cc0_scratch3 cc0_scratch4) fun _ => bodyPost m ρ c
  rw [body_eq]
  simp only [Prog.lift, Prog.bind_op, Prog.bind_ret, wp_deviceId]
  exact sound_body m ρ c

end Cert.Exchange

end
-- ==== Proof.Launch.lean ====
/-
# The run

The protocol's resources dealt to the devices at launch, and the run of the kernel on the whole mesh.
-/
module

public import proofs.«01_k».proof.Proof.Region
public import proofs.«01_k».proof.Proof.Gen.KernelIdeal.Launch
public import Idealize.ShloMosaic.Lib.Pipeline.Launch
public import Idealize.ShloMosaic.Lib.Pipeline.CollectiveSegs

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Sums over the names -/

theorem bigSep_bool (Φ : Bool → sProp 𝕄) : bigSep Finset.univ Φ = iprop(Φ false ∗ Φ true) :=
  bigSep_univ_eq_bigSepL [false, true] (by decide) (by decide) Φ
theorem bigSep_steps (Φ : Bool × Fin 7 → sProp 𝕄) :
    bigSep Finset.univ Φ = iprop((bigSep Finset.univ fun s => Φ (false, s)) ∗ bigSep Finset.univ fun s => Φ (true, s)) := by
  rw [bigSep_univ_prod, bigSep_bool]
theorem bigSep_option {B : Type} [Fintype B] [DecidableEq B] (Φ : Option B → sProp 𝕄) : bigSep Finset.univ Φ = iprop(Φ none ∗ bigSep Finset.univ fun b => Φ (some b)) := by
  rw [bigSep_univ_at _ none]
  congr 1
  rw [show (Finset.univ.erase none : Finset (Option B)) = Finset.univ.map Function.Embedding.some from by
    ext o; cases o <;> simp, bigSep_map]
  rfl
theorem bigSep_kinds (Φ : CK → sProp 𝕄) : bigSep Finset.univ Φ
    = iprop(Φ none ∗ (bigSep Finset.univ fun s => Φ (some (false, s))) ∗ bigSep Finset.univ fun s => Φ (some (true, s))) := by
  rw [bigSep_option, bigSep_steps]

/-! ## The semaphores -/

/-- The kernel's own semaphores: one for each half of the weight's buffer, two for each step. -/
abbrev osem : Fin 2 ⊕ (Bool × Fin 7) → SemLoc sig
  | .inl b => .dma (wSem b) | .inr e => csem (some e)
theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = iprop(wSems c ∗ stepSems c) := by
  unfold Pipeline.ownSems0 wSems stepSems
  rw [bigSep_univ_sum, bigSep_steps]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem share_eq (c : Dev nD) (w : Fin cfg0.W) : (dats m ρ 0 c).share w = fullShare := by unfold Dat.share; split <;> rfl

/-! ## What the launch makes -/

def meshCells : Finset (GSem nD τ sig) := Finset.univ.map ⟨kcell, kcell_injective⟩

/-- The duties of a device's own cells: `(none, s)` the unit of its barrier named `s`, `(some b, s)` its step `s`'s departure or
    arrival. -/
abbrev tokOf (x : Dev nD × Option Bool × Fin 7) : GSem nD τ sig × ℕ × Fin 7 := match x.2.1 with
  | none => (barCell x.1, 0, x.2.2) | some b => (kcell (x.1, some (b, x.2.2)), 0, 0)
theorem tokOf_injective : Function.Injective tokOf := by
  rintro ⟨c, o, s⟩ ⟨c', o', s'⟩ h
  rcases o with _ | b <;> rcases o' with _ | b'
  · have h1 := kcell_injective (congrArg Prod.fst h)
    have h2 : s = s' := congrArg (fun x : GSem nD τ sig × ℕ × Fin 7 => x.2.2) h
    exact Prod.ext (Prod.mk.inj h1).1 (Prod.ext rfl h2)
  · have h1 := kcell_injective (congrArg Prod.fst h)
    exact absurd (Prod.mk.inj h1).2 (fun h => by cases h)
  · have h1 := kcell_injective (congrArg Prod.fst h)
    exact absurd (Prod.mk.inj h1).2 (fun h => by cases h)
  · have h1 := kcell_injective (congrArg Prod.fst h)
    obtain ⟨h2, h3⟩ := Prod.mk.inj h1
    obtain ⟨h4, h5⟩ := Prod.mk.inj (Option.some.inj h3)
    exact Prod.ext h2 (Prod.ext (congrArg some h4) h5)
def meshToks : Finset (GSem nD τ sig × ℕ × Fin 7) := Finset.univ.map ⟨tokOf, tokOf_injective⟩

def u₀ : UU :=
  (initOf (Pipeline.cells cfgs cellOf_inj) (Pipeline.launchToks cfgs cellOf_inj), (initOf meshCells meshToks, (1 : Counters)))

theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The duties of device `c`'s own cells; and those it pays itself. -/
def minted (c : Dev nD) (s : Fin 7) : sProp 𝕄 :=
  iprop(dutyTok ER (barCell c) 0 s ∗ dutyTok ER (sendCell c s) 0 0 ∗ dutyTok ER (recvCell c s) 0 0)
def paid (c : Dev nD) (s : Fin 7) : sProp 𝕄 :=
  iprop(dutyTok ER (barCell (peer c s)) 0 s ∗ dutyTok ER (sendCell c s) 0 0 ∗ dutyTok ER (recvCell (peer c s) s) 0 0)

/-- A thing that each device has for each step, held at the step's source instead. -/
theorem turned (Φ : Dev nD → Fin 7 → sProp 𝕄) :
    (bigSep Finset.univ fun c => bigSep Finset.univ fun s => Φ c s) = bigSep Finset.univ fun c => bigSep Finset.univ fun s => Φ (peer c s) s := by
  rw [BI.bigSep_univ_comm, bigSep_congr fun s _ => bigSep_univ_equiv (turn s) (fun c => Φ c s), BI.bigSep_univ_comm]; rfl

theorem minted_paid : (bigSep Finset.univ fun c => bigSep Finset.univ fun s => minted (F := F) c s) = bigSep Finset.univ fun c => bigSep Finset.univ fun s => paid (F := F) c s := by
  have hm (c : Dev nD) : bigSep Finset.univ (fun s => minted (F := F) c s) = iprop((bigSep Finset.univ fun s : Fin 7 => dutyTok ER (barCell c) 0 s)
      ∗ (bigSep Finset.univ fun s : Fin 7 => dutyTok ER (sendCell c s) 0 0) ∗ bigSep Finset.univ fun s : Fin 7 => dutyTok ER (recvCell c s) 0 0) := by
    rw [← bigSep_sep', ← bigSep_sep']; rfl
  have hp (c : Dev nD) : bigSep Finset.univ (fun s => paid (F := F) c s) = iprop((bigSep Finset.univ fun s : Fin 7 => dutyTok ER (barCell (peer c s)) 0 s)
      ∗ (bigSep Finset.univ fun s : Fin 7 => dutyTok ER (sendCell c s) 0 0) ∗ bigSep Finset.univ fun s : Fin 7 => dutyTok ER (recvCell (peer c s) s) 0 0) := by
    rw [← bigSep_sep', ← bigSep_sep']; rfl
  rw [bigSep_congr fun c _ => hm c, bigSep_congr fun c _ => hp c, bigSep_sep', bigSep_sep', bigSep_sep', bigSep_sep',
    turned fun c s => (dutyTok ER (barCell c) 0 s : sProp 𝕄), turned fun c s => (dutyTok ER (recvCell c s) 0 0 : sProp 𝕄)]

def G (c : Dev nD) : sProp 𝕄 :=
  iprop((bigSep Finset.univ fun k : CK => roundState ER (rd m ρ) (kcell (c, k)) 0)
    ∗ (bigSep Finset.univ fun k : CK => iprop(atPos ER (kcell (c, k)) 0 ∅ 0 ∗ reached ER (kcell (c, k)) 0)) ∗ bigSep Finset.univ (minted (F := F) c))
def G' (c : Dev nD) : sProp 𝕄 := iprop((∃ K, records m ρ K) ∗ ghost c ∗ wSems c)

theorem fund_mesh : BI.own (ER (initOf meshCells meshToks)) ⊢ (|==> bigSep Finset.univ (G m ρ) : sProp 𝕄) := by
  have hX (Φ : GSem nD τ sig → sProp 𝕄) : bigSep meshCells Φ = bigSep Finset.univ fun c : Dev nD => bigSep Finset.univ fun k : CK => Φ (kcell (c, k)) := by
    unfold meshCells; rw [bigSep_map, bigSep_univ_prod]; rfl
  have hT : bigSep meshToks (fun x => (dutyTok ER x.1 x.2.1 x.2.2 : sProp 𝕄)) = bigSep Finset.univ fun c : Dev nD => bigSep Finset.univ (minted (F := F) c) := by
    unfold meshToks; rw [bigSep_map, bigSep_univ_prod]
    refine bigSep_congr fun c _ => ?_
    rw [bigSep_univ_prod, bigSep_option, bigSep_bool, ← bigSep_sep', ← bigSep_sep']; rfl
  iintro HX
  imod (Rounds.fund ER (rd m ρ) meshCells meshToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells' invariants, all devices at once -/

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k : CK => reached ER (kcell (c, k)) 0)
          ∗ (bigSep Finset.univ fun k : CK => atPos ER (kcell (c, k)) 0 ∅ 0) ∗ bigSep Finset.univ (minted (F := F) c) ∗ wSems c) := by
  unfold G
  rw [ownSems0_eq, unscopedSems0_eq, bigSep_sep']
  iintro ⟨⟨Hw, Hs⟩, HB, Hst, ⟨Hat, Hr⟩, Htok⟩
  unfold stepSems
  ihave Hv := (Entails.of_eq (bigSep_kinds fun k : CK => (semVal (kcell (c, k)) 0 : sProp 𝕄)).symm) $$ [Hs HB]
  · isplitl [HB] <;> iassumption
  imod (show iprop((bigSep Finset.univ fun k : CK => semVal (kcell (c, k)) 0) ∗ bigSep Finset.univ fun k : CK => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok] <;> iassumption

/-- A device's positions and the duties it pays, step by step. -/
theorem ghost_eq (c : Dev nD) : (ghost c : sProp 𝕄)
    = iprop((bigSep Finset.univ fun k : CK => atPos ER (kcell (c, k)) 0 ∅ 0) ∗ bigSep Finset.univ (paid (F := F) c)) := by
  have hd : bigSep Finset.univ (deal (F := F) c) = iprop((bigSep Finset.univ fun s => atPos ER (sendCell c s) 0 ∅ 0)
      ∗ (bigSep Finset.univ fun s => atPos ER (recvCell c s) 0 ∅ 0) ∗ bigSep Finset.univ (paid (F := F) c)) := by
    rw [← bigSep_sep', ← bigSep_sep']; rfl
  have ha (A B C : sProp 𝕄) : iprop((A ∗ B) ∗ C) = iprop(A ∗ B ∗ C) := by
    have h₁ : iprop((A ∗ B) ∗ C) ⊢ iprop(A ∗ B ∗ C) := Laws.sep_assoc.1
    have h₂ : iprop(A ∗ B ∗ C) ⊢ iprop((A ∗ B) ∗ C) := Laws.sep_assoc.2
    exact equiv_iff.mp ⟨h₁, h₂⟩
  unfold ghost
  rw [hd, bigSep_kinds, ha, ha]

theorem regroup :
    (bigSep Finset.univ fun c : Dev nD => iprop((bigSep Finset.univ fun k => iprop(∃ κ : ℕ, cellInv ER (rd m ρ) κ (kcell (c, k))))
          ∗ (bigSep Finset.univ fun k : CK => reached ER (kcell (c, k)) 0)
          ∗ (bigSep Finset.univ fun k : CK => atPos ER (kcell (c, k)) 0 ∅ 0) ∗ bigSep Finset.univ (minted (F := F) c) ∗ wSems c) : sProp 𝕄)
      ⊢ bigSep Finset.univ (G' m ρ) := by
  have hG : bigSep Finset.univ (G' m ρ) = iprop((bigSep Finset.univ fun _ : Dev nD => iprop(∃ K, records m ρ K))
      ∗ ((bigSep Finset.univ fun c : Dev nD => bigSep Finset.univ fun k : CK => atPos ER (kcell (c, k)) 0 ∅ 0)
        ∗ (bigSep Finset.univ fun c : Dev nD => bigSep Finset.univ (paid (F := F) c))) ∗ bigSep Finset.univ fun c : Dev nD => wSems c) := by
    unfold G'
    rw [bigSep_sep', bigSep_sep', bigSep_congr fun c _ => ghost_eq (F := F) c, bigSep_sep']
  rw [hG, bigSep_sep', bigSep_sep', bigSep_sep', bigSep_sep', ← bigSep_univ_prod (fun ck : Dev nD × CK => iprop(∃ κ : ℕ, cellInv ER (rd m ρ) κ (kcell ck))),
    ← bigSep_univ_prod (fun ck : Dev nD × CK => (reached ER (kcell ck) 0 : sProp 𝕄)),
    show (bigSep Finset.univ fun c : Dev nD => bigSep Finset.univ (minted (F := F) c)) = bigSep Finset.univ fun c : Dev nD => bigSep Finset.univ (paid (F := F) c) from minted_paid]
  iintro ⟨HI, #HR, Hat, Htok, Hw⟩
  ihave HK := (BI.bigSep_exists_pi Finset.univ (fun (ck : Dev nD × CK) (κ : ℕ) => (cellInv ER (rd m ρ) κ (kcell ck) : sProp 𝕄))) $$ HI
  icases HK with ⟨%K, #HI⟩
  isplitr
  · iapply (BI.bigSep_of_persistent (Finset.univ : Finset (Dev nD)) (iprop(∃ K, records m ρ K) : sProp 𝕄))
    iexists K
    unfold records; isplitl; · iexact HI
    iexact HR
  isplitr [Hw]
  · isplitl [Hat] <;> iassumption
  iexact Hw

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

theorem owed_cell (d : Dev nD) (g : GSem nD τ sig) :
    O₀ d g () = (∑ s : Fin 7, if g = barCell (peer d s) then 1 else 0) + ∑ s : Fin 7, if g = recvCell (peer d s) s then N else 0 := by
  unfold O₀
  rw [due_apply, Fin.sum_univ_seven, Fin.sum_univ_seven]
  simp only [List.map_cons, List.map_nil, List.sum_cons, List.sum_nil, target, amt, Nat.add_zero, Nat.add_assoc]
  rfl

theorem sum_turn (c : Dev nD) (s : Fin 7) (n : ℕ) : (∑ d : Dev nD, if c = peer d s then n else 0) = n := by
  rw [Finset.sum_congr rfl fun d _ => if_congr (show c = peer d s ↔ d = src c s from ⟨fun h => by rw [h, src_peer], fun h => by rw [h, peer_src]⟩) rfl rfl,
    Finset.sum_ite_eq' Finset.univ (src c s) fun _ => n, if_pos (Finset.mem_univ _)]

theorem kcell_iff {a b : Dev nD × CK} : kcell a = kcell b ↔ a = b := kcell_injective.eq_iff

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_cell d (barCell c), Finset.sum_add_distrib, Finset.sum_comm,
    Finset.sum_congr rfl fun s _ => (Finset.sum_congr rfl fun d _ => if_congr (show barCell c = barCell (peer d s) ↔ c = peer d s by
      rw [kcell_iff]; exact ⟨fun h => (Prod.mk.inj h).1, fun h => by rw [← h]⟩) rfl rfl).trans (sum_turn c s 1),
    Finset.sum_eq_zero (s := Finset.univ) (f := fun d : Dev nD => ∑ s : Fin 7, if barCell c = recvCell (peer d s) s then N else 0) fun d _ =>
      Finset.sum_eq_zero fun s _ => if_neg fun h => by have := (Prod.mk.inj (kcell_injective h)).2; cases this]
  rfl

theorem launch_recv (c : Dev nD) (s : Fin 7) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_cell d (recvCell c s), Finset.sum_add_distrib,
    Finset.sum_eq_zero (s := Finset.univ) (f := fun d : Dev nD => ∑ s' : Fin 7, if recvCell c s = barCell (peer d s') then 1 else 0) fun d _ =>
      Finset.sum_eq_zero fun s' _ => if_neg (fun h => by have := (Prod.mk.inj (kcell_injective h)).2; cases this),
    Nat.zero_add, Finset.sum_comm, Finset.sum_eq_single s]
  · exact (Finset.sum_congr rfl fun d _ => if_congr (show recvCell c s = recvCell (peer d s) s ↔ c = peer d s by
      rw [kcell_iff]; exact ⟨fun h => (Prod.mk.inj h).1, fun h => by rw [← h]⟩) rfl rfl).trans (sum_turn c s N)
  · intro s' _ hs
    exact Finset.sum_eq_zero fun d _ => if_neg fun h => hs (by
      have := (Prod.mk.inj (Option.some.inj (Prod.mk.inj (kcell_injective h)).2)).2; exact this.symm)
  · intro h; exact absurd (Finset.mem_univ s) h

theorem creds (c : Dev nD) : (Pipeline.launchCred O₀ c : sProp 𝕄) ⊢ credits c := by
  unfold Pipeline.launchCred credits
  refine (bigSep_subset (Finset.subset_univ (Finset.univ.map ⟨csem, csem_injective⟩))).trans ?_
  rw [bigSep_map, bigSep_kinds]
  refine (show ∀ A B C : sProp 𝕄, iprop(A ∗ B ∗ C) ⊢ iprop(A ∗ C) from fun A B C => by
    iintro ⟨HA, -, HC⟩
    isplitl [HA] <;> iassumption) _ _ _ |>.trans ?_
  refine Entails.of_eq ?_
  congr 1
  · exact congrArg cred (launch_bar c)
  · exact bigSep_congr fun s _ => congrArg cred (launch_recv c s)

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  unfold start G' ctx
  iintro ⟨Hg, Hlev, Hcr, -, ⟨⟨%K, HR⟩, Hgh, Hw⟩⟩
  ihave Hc := (creds (F := F) c) $$ Hcr
  imodintro
  isplitl
  · isplitl [HR Hlev]
    · iexists K
      isplitl [HR] <;> iassumption
    isplitl [Hgh]; · iexact Hgh
    isplitl [Hc]; · iexact Hc
    isplitl [Hw] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ wSome ySome
  iintro ⟨Hs, -, Hr⟩
  isplitl [Hs] <;> iassumption

/-- What a device keeps for the end: the weight as launched, the barrier's counter at zero. -/
def kept (c : Dev nD) : sProp 𝕄 := iprop((gLoc c ↦{fullShare} m (gLoc c)) ∗ unscopedSems0 c)

theorem phi1_exit (c : Dev nD) :
    (dats m ρ 0 c).Φ (Fin.last cfg0.N) ⊢ iprop(kept m c ∗ Pipeline.ownSems0 osem c ∗ Pipeline.scopedRest cfg0.spec c) := by
  unfold kept
  rw [show (dats m ρ 0 c).Φ (Fin.last cfg0.N) = Φ₁ m c from rfl, scopedRest0_eq, ownSems0_eq, unscopedSems0_eq]
  unfold Φ₁ wSome ySome
  iintro ⟨Hg, Hw, Hy, HzW, HzS, HzB⟩
  isplitl [Hg HzB]
  · isplitl [Hg] <;> iassumption
  isplitl [HzW HzS]
  · isplitl [HzW] <;> iassumption
  isplitl [Hw] <;> iassumption

theorem waits (c : Dev nD) : (levAts L lv : sProp 𝕄) ⊢ Pipeline.cellsWaits cfgs (dats m ρ) () 0 c :=
  Pipeline.cellsWaits_intro cfgs (dats m ρ) () 0 c fun w s t => by
    have hk : ∀ (l : List (Bool × Fin 7)), (levAts L lv : sProp 𝕄) ⊢ MayWait (c : Thread nD τ) _ () (due c l) := fun l =>
      mayWait c _ 0 (show lv ((c : Thread nD τ), .dma (((cfgs 0).win w).sem s)) () ≤ 0 by
        have h : kind (.dma (((cfgs 0).win w).sem s)) = none := by fin_cases w <;> fin_cases s <;> decide
        unfold lv; dsimp only; rw [h]) l fun e _ => above_zero e
    rcases t with ⟨_ | _, ht⟩
    · exact hk all
    · exact hk []

/-- The weight and the unscoped counters read at the end. -/
theorem read_kept (c : Dev nD) (s' : Phys nD τ sig (Elt F)) :
    iprop(kept m c ∗ emp ∗ SI s')
      ⊢ |={Set.univ}=> iprop(⌜s'.mem.mem (gLoc c) = m (gLoc c) ∧ ∀ sm : SemLoc sig, sm.isScoped .tc = false → s'.mem.sem ((c.tc : Thread nD τ), sm) = 0⌝ ∗ (SI s' : sProp 𝕄)) := by
  unfold kept
  iintro ⟨⟨Hg, Hu⟩, -, HSI⟩
  imod (Pipeline.unscopedSems0_read (X := unscopedSems0 c) (c := c) fupd_intro s') $$ [Hu HSI] with ⟨%hu, HSI⟩
  · isplitl [Hu] <;> iassumption
  ihave H := (pointsTo_read_all (Finset.univ : Finset (Fin 1)) (fun _ => gLoc c) (fun _ => m (gLoc c)) s') $$ [Hg HSI]
  · isplitl [Hg]
    · rw [show (Finset.univ : Finset (Fin 1)) = {0} from rfl, bigSep_singleton]; iexact Hg
    iexact HSI
  icases H with ⟨%hg, HSI⟩
  imodintro
  isplitr
  · ipureintro; exact ⟨hg 0 (Finset.mem_univ _), hu⟩
  iexact HSI

/-! ## The run -/

def finalA (c : Dev nD) (w : Fin cfg0.W) : Buf (Elt F) ((cfg0.win w).arr.view.loc (c : Thread nD τ)) := (dats m ρ 0 c).arrAt w cfg0.N

/-- Both windows' arrays at the computed contents, the weight unchanged. -/
def QC : PUnit × MemSt nD τ sig (Elt F) → Prop := fun r =>
  ∀ c : Dev nD, (∀ w : Fin cfg0.W, r.2.mem ((cfg0.win w).arr.view.loc (c : Thread nD τ)) = finalA m ρ c w) ∧ r.2.mem (gLoc c) = m (gLoc c)

set_option maxRecDepth 8000 in
/-- Every fair run of the eight devices ends, each device's result at the computed contents, the arguments unchanged and every
    semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_split _ _) $$ Hu
      icases H with ⟨HP, HX⟩
      imod (fund_mesh m ρ) $$ HX with HG
      imodintro
      isplitl [HP] <;> iassumption)
    (hglob := glob m ρ)
    (hA := fun _ _ => rfl) (hpf := fun _ k => k.elim0)
    (X := start m ρ) (Y := kept m) (Z := fun _ => iprop(emp))
    (hX := start_intro m ρ) (hin := phi0_intro m ρ) (hout := phi1_exit m ρ)
    (QY := fun c s => s.mem (gLoc c) = m (gLoc c) ∧ ∀ sm : SemLoc sig, sm.isScoped .tc = false → s.sem ((c.tc : Thread nD τ), sm) = 0)
    (hY := read_kept m)
    (hQ := fun _ h hs => ⟨fun c => ⟨(h c).1, (h c).2.2.1⟩, sem_eq_zero hs fun c => (h c).2.2.2⟩)

/-- The rows of `x` after the run are what they were. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.Exchange

end
-- ==== Proof.Value.lean ====
/-
# The value at the ideal instance

Every element of a device's result, and of the reference's, is the silu of one inner product over the 4096 columns of `x`.
-/
module

public import proofs.«01_k».proof.Proof.Launch
public import Idealize.ShloMosaic.Lib.LayoutAt
public import Idealize.ShloMosaic.Lib.Pointwise

@[expose] public section

noncomputable section

namespace Cert.Exchange

open Cert.KernelIdeal Cert.KernelIdeal.Gen
open Idealize.ShloMosaic
open Idealize.ShloMosaic.TcCoe
open Idealize.SL.Sem

/-! ## Scalars -/

/-- The silu, as the reference writes it. -/
def silu (y : EReal) : EReal := Ideal.div y (1 + Ideal.exp (-y))

theorem exp_nonneg (y : EReal) : 0 ≤ Ideal.exp y := by
  induction y with
  | bot => exact le_of_eq Ideal.exp_bot.symm
  | top => rw [Ideal.exp_top]; exact le_top
  | coe r => rw [Ideal.exp_coe]; exact EReal.coe_nonneg.mpr (Real.exp_pos r).le

/-- The kernel multiplies by the logistic where the reference divides; the two agree at every extended real. -/
theorem mul_logistic (y : EReal) : y * Ideal.logistic y = silu y := by
  have h : (1 + Ideal.exp (-y) : EReal) ≠ 0 :=
    (lt_of_lt_of_le one_pos (le_add_of_nonneg_right (exp_nonneg (-y)))).ne'
  unfold silu Ideal.logistic Ideal.div
  rw [if_neg h, if_neg h, one_mul]

/-! ## A tile, element by element -/

theorem tileC_apply (x : Vec Ideal S512x4096 .f32) (w : Vec Ideal S4096x1024 .f32) (r : Fin 512) (l : Fin 1024) :
    tileC (F := Ideal) x w (ix2 r l) = silu (∑ k : Fin 4096, x (ix2 r k) * w (ix2 k l)) := by
  rw [← mul_logistic]
  pointwise [tileC, k0_pay1]

/-- Block `j` of the weight as device `c` meets it: the columns of device `c + 1 + j`. -/
theorem wOf_apply (m : (ℓ : Loc nD τ sig) → Buf (Elt Ideal) ℓ) (c : Dev nD) (j : Fin 8) (k : Fin 4096) (l : Fin 1024) :
    wOf m c j (ix2 k l) = (m ((c : Thread nD τ).loc main_arg1) : (⟨2, ![4096, 8192]⟩ : Shape).Idx → EReal)
      (ix2 k ⟨1024 * ((c.val + 1 + j.val) % 8) + l.val, by omega⟩) := by
  show (m ((c : Thread nD τ).loc main_arg1) : (⟨2, ![4096, 8192]⟩ : Shape).Idx → EReal) ((colRect c j).emb (ix2 k l)) = _
  refine congrArg _ (funext fun a => Fin.ext ?_)
  rw [Rect.emb_apply, Rect.off_unit, Rect.stride_unit, Nat.one_mul, off1_eq]
  refine Fin.cases ?_ (fun a => ?_) a
  · exact Nat.zero_add _
  · refine Fin.cases rfl (fun a => a.elim0) a

/-- The rows of `x` a device multiplies are its argument. -/
theorem xOf_eq (m : (ℓ : Loc nD τ sig) → Buf (Elt Ideal) ℓ) (ρ : Dev nD → PrngReg) (c : Dev nD) :
    xOf m ρ c = m ((c : Thread nD τ).loc main_arg0) := by
  have hz : (fun a => win0_0.index (0 : Fin 1) a * main_arg0.ty.shape.size a) = fun _ => 0 := by funext a; fin_cases a <;> decide
  exact Memref.read_access_unit_zero (Elt Ideal) main_arg0 hz (fun a => by fin_cases a <;> decide) _

/-- Column block `c` is what device `b` multiplies at its step `stepOf b c`. -/
theorem step_block (b c : Dev nD) : (b.val + 1 + (stepOf b c).val) % 8 = c.val := by revert b c; decide

/-- The result array after the run is what the body left. -/
theorem finalA_out {F : FTy → Type} [FloatOps F] (m : (ℓ : Loc nD τ sig) → Buf (Elt F) ℓ) (ρ : Dev nD → PrngReg) (c : Dev nD) :
    finalA m ρ c (1 : Fin 2) = outAt m ρ c := by
  have h : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  have hz : (fun a => win0_1.index (0 : Fin 1) a * main_v1.ty.shape.size a) = fun _ => 0 := by funext a; fin_cases a <;> decide
  exact (Memref.read_access_unit_zero (Elt F) main_v1 hz (fun a => by fin_cases a <;> decide) _).symm.trans h

/-! ## The whole product -/

/-- The inner product at a row of the whole `x` and a column of the weight. -/
def inner (X : (⟨2, ![4096, 4096]⟩ : Shape).Idx → EReal) (W : (⟨2, ![4096, 8192]⟩ : Shape).Idx → EReal) (r : Fin 4096) (l : Fin 8192) : EReal :=
  ∑ k : Fin 4096, X (ix2 r k) * W (ix2 k l)

/-- What the whole result holds: the silu of the inner product. -/
def whole (X : (⟨2, ![4096, 4096]⟩ : Shape).Idx → EReal) (W : (⟨2, ![4096, 8192]⟩ : Shape).Idx → EReal) :
    (⟨2, ![4096, 8192]⟩ : Shape).Idx → EReal := fun i => silu (inner X W ⟨(i 0).val, (i 0).isLt⟩ ⟨(i 1).val, (i 1).isLt⟩)

/-- Device `c` is left column block `c` of the whole result. -/
theorem outAt_block (m : (ℓ : Loc nD τ sig) → Buf (Elt Ideal) ℓ) (ρ : Dev nD → PrngReg)
    (X : (⟨2, ![4096, 4096]⟩ : Shape).Idx → EReal) (W : (⟨2, ![4096, 8192]⟩ : Shape).Idx → EReal)
    (hX : ∀ c : Dev nD, m ((c : Thread nD τ).loc main_arg0) = Layout.block ⟨2, ![512, 4096]⟩ ⟨2, ![4096, 4096]⟩ 0 8 c X)
    (hW : ∀ c : Dev nD, m ((c : Thread nD τ).loc main_arg1) = W) (c : Dev nD) :
    outAt m ρ c = Layout.block ⟨2, ![4096, 1024]⟩ ⟨2, ![4096, 8192]⟩ 1 8 c (whole X W) := by
  funext i
  obtain ⟨r, l, rfl⟩ : ∃ (r : Fin 4096) (l : Fin 1024), i = ix2 r l := ⟨i 0, i 1, eq_ix2 i⟩
  let b : Dev nD := ⟨r.val / 512, Nat.div_lt_of_lt_mul r.isLt⟩
  have ho : outAt m ρ c (ix2 r l) = tile m ρ b (stepOf b c) (ix2 ⟨r.val % 512, Nat.mod_lt _ (by decide)⟩ l) := by
    unfold outAt
    refine congrArg _ (funext fun a => ?_)
    refine Fin.cases rfl (fun a => ?_) a
    exact Fin.cases rfl (fun a => a.elim0) a
  rw [ho]
  unfold tile
  rw [tileC_apply, Layout.block_apply]
  unfold whole inner
  refine congrArg silu (Finset.sum_congr rfl fun k _ => ?_)
  rw [wOf_apply, xOf_eq, hX, hW]
  have hs := step_block b c
  refine congrArg₂ (· * ·) (congrArg X (funext fun a => Fin.ext ?_)) (congrArg W (funext fun a => Fin.ext ?_))
  · refine Fin.cases ?_ (fun a => ?_) a
    · show b.val * 512 + r.val % 512 = r.val
      show r.val / 512 * 512 + r.val % 512 = r.val
      omega
    · exact Fin.cases rfl (fun a => a.elim0) a
  · refine Fin.cases rfl (fun a => ?_) a
    refine Fin.cases ?_ (fun a => a.elim0) a
    show 1024 * ((b.val + 1 + (stepOf b c).val) % 8) + l.val = c.val * 1024 + l.val
    rw [hs, Nat.mul_comm]

end Cert.Exchange

end
-- ==== Proof.Refs.lean ====
/-
# The references' values at the ideal instance

Each reference's result, element by element, as the silu of the inner product; the guarded one where the mask holds.
-/
module

public import proofs.«01_k».proof.Proof.Value
public import proofs.«01_k».proof.Defs
public import proofs.«01_k».proof.Proof.Gen.ReferenceIdeal.Run
public import proofs.«01_k».proof.Proof.Gen.GuardedIdeal.Run

@[expose] public section

noncomputable section

namespace Cert.Exchange

open Idealize.ShloMosaic

/-- The side conditions of the mask. -/
theorem withinFacts : Cert.On_within.Facts := ⟨by decide, by decide⟩

theorem one_word : Ideal.ofBits .f32 0x3F800000#32 = 1 := by simp [Ideal.ofBits, Ideal.ieee, -EReal.coe_mul]; norm_num
theorem sixty_word : Ideal.ofBits .f32 0x42700000#32 = (60 : ℝ) := by simp [Ideal.ofBits, Ideal.ieee, -EReal.coe_mul]; norm_num
theorem minus_sixty_word : Ideal.ofBits .f32 0xC2700000#32 = (-60 : ℝ) := by simp [Ideal.ofBits, Ideal.ieee, -EReal.coe_mul]; norm_num

variable (X : (⟨2, ![4096, 4096]⟩ : Shape).Idx → EReal) (W : (⟨2, ![4096, 8192]⟩ : Shape).Idx → EReal)

section Plain
open Cert.ReferenceIdeal Cert.ReferenceIdeal.Gen

/-- The reference's result as printed. -/
def plain : FVec Ideal S4096x8192 .bf16 :=
  truncf .bf16 (Host.divf (Host.dotGeneral (φ₁ := .f32) (φ₂ := .f32) dot_S4096x4096_S4096x8192_S4096x8192_1_0_0_1_n_n none X W)
    (addf (broadcastInDim S4096x8192 ![] bcast_S_S4096x8192 (constant S_ .f32 0x3F800000#32))
      (Host.exp (Host.negf (Host.dotGeneral (φ₁ := .f32) (φ₂ := .f32) dot_S4096x4096_S4096x8192_S4096x8192_1_0_0_1_n_n none X W))))) bitsLt_bf16_f32

theorem plain_eq : plain X W = whole X W := by
  funext i
  obtain ⟨r, l, rfl⟩ : ∃ (r : Fin 4096) (l : Fin 8192), i = ix2 r l := ⟨i 0, i 1, eq_ix2 i⟩
  show _ = silu (inner X W r l)
  unfold silu inner
  pointwise [plain, one_word]

end Plain

section Guarded
open Cert.GuardedIdeal Cert.GuardedIdeal.Gen

/-- The guarded reference's result as printed. -/
def clipped : FVec Ideal S4096x8192 .bf16 :=
  truncf .bf16 (Host.divf (Host.dotGeneral (φ₁ := .f32) (φ₂ := .f32) dot_S4096x4096_S4096x8192_S4096x8192_1_0_0_1_n_n none X W)
    (addf (broadcastInDim S4096x8192 ![] bcast_S_S4096x8192 (constant S_ .f32 0x3F800000#32))
      (Host.exp (Host.negf (minimumf (broadcastInDim S4096x8192 ![] bcast_S_S4096x8192 (id (constant S_ .f32 0x42700000#32)))
        (maximumf (broadcastInDim S4096x8192 ![] bcast_S_S4096x8192 (id (constant S_ .f32 0xC2700000#32)))
          (Host.dotGeneral (φ₁ := .f32) (φ₂ := .f32) dot_S4096x4096_S4096x8192_S4096x8192_1_0_0_1_n_n none X W))))))) bitsLt_bf16_f32

theorem clipped_apply (r : Fin 4096) (l : Fin 8192) :
    clipped X W (ix2 r l) = Ideal.div (inner X W r l) (1 + Ideal.exp (-min ((60 : ℝ) : EReal) (max ((-60 : ℝ) : EReal) (inner X W r l)))) := by
  unfold inner
  pointwise [clipped, one_word, sixty_word, minus_sixty_word, id]
end Guarded

section Mask
attribute [local instance] withinFacts

/-- Where the mask is set, the inner product lies between −60 and 60. -/
theorem mask_bounds (r : Fin 4096) (l : Fin 8192) (h : Cert.On_within.fn (F := Ideal) X W (ix2 r l) = 1#1) :
    ((-60 : ℝ) : EReal) ≤ inner X W r l ∧ inner X W r l ≤ ((60 : ℝ) : EReal) := by
  unfold inner
  pointwise [Cert.On_within.fn, sixty_word, minus_sixty_word] at h
  generalize (∑ k : Fin 4096, X (ix2 r k) * W (ix2 k l)) = y at h ⊢
  by_cases h₁ : ((-60 : ℝ) : EReal) ≤ y
  · by_cases h₂ : y ≤ ((60 : ℝ) : EReal)
    · exact ⟨h₁, h₂⟩
    · rw [decide_eq_true h₁, decide_eq_false h₂] at h; exact absurd h (by decide)
  · rw [decide_eq_false h₁] at h
    by_cases h₂ : y ≤ ((60 : ℝ) : EReal)
    · rw [decide_eq_true h₂] at h; exact absurd h (by decide)
    · rw [decide_eq_false h₂] at h; exact absurd h (by decide)

/-- There the guard does nothing. -/
theorem clipped_eq (i : (⟨2, ![4096, 8192]⟩ : Shape).Idx) (h : Cert.On_within.fn (F := Ideal) X W i = 1#1) : clipped X W i = whole X W i := by
  obtain ⟨r, l, rfl⟩ : ∃ (r : Fin 4096) (l : Fin 8192), i = ix2 r l := ⟨i 0, i 1, eq_ix2 i⟩
  obtain ⟨h₁, h₂⟩ := mask_bounds X W r l h
  rw [clipped_apply, max_eq_right h₁, min_eq_right h₂]
  rfl

end Mask

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.GuardedIdeal
public import proofs.«01_k».proof.Proof.Gen.GuardedIdeal.Run
public import proofs.«01_k».proof.Proof.Value
public import proofs.«01_k».proof.Proof.Refs
public import Idealize.ShloMosaic.Lib.Quiescent
public import Idealize.ShloMosaic.Adequacy
public import Idealize.ShloMosaic.Init

@[expose] public section

noncomputable section

namespace Cert.Proof

open Idealize.ShloMosaic Idealize.SL.Sem Cert.Exchange

/-! ## The frames -/

/-- The run, over any float values, read at the two arguments and the counters. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨((h.1 c).1 (0 : Fin 2)).trans (finalA_x m ρ c), (h.1 c).2⟩, h.2⟩)
    (run_main m ρ)

/-- The two printed tables of bodies are one: they agree at each label, of which there is one. -/
theorem table_eq {F : FTy → Type} [FloatOps F] : Cert.Kernel.defs (F := F) = Cert.KernelIdeal.defs := by
  have h : Cert.Kernel.defs₀ (F := F) = Cert.KernelIdeal.defs₀ := by
    unfold Cert.Kernel.defs₀ Cert.KernelIdeal.defs₀
    refine congrArg Defs.onTc (funext fun l => funext fun a => ?_)
    refine Fin.cases (fun a => ?_) (fun l => l.elim0) l a
    rfl
  exact congrArg (Pipeline.defs Cert.KernelIdeal.pcfgs) h

/-- The kernel as printed has the idealized text, so its frame is the same run at the machine's words. -/
theorem frame_kernel : Cert.quiescent_Kernel := fun m ρ _ => by
  rw [table_eq]
  exact frame_any (F := Bits) m ρ

theorem frame_kernelIdeal : Cert.quiescent_KernelIdeal := fun m ρ _ => frame_any (F := Ideal) m ρ

/-- The references have no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_guarded : Cert.quiescent_GuardedIdeal := fun m ρ _ =>
  (θ_run Cert.GuardedIdeal.defs _ _).mono (fun r h => ⟨fun c => (h c).2, sem_eq_zero_of_no_sems (by decide) r.2⟩)
    (Cert.GuardedIdeal.Value.run (F := Ideal) m ρ)

/-! ## The values -/

/-- The kernel's run with each device's result as its column block of the whole. -/
theorem kernel_value (m : (ℓ : Loc Cert.KernelIdeal.nD Cert.KernelIdeal.τ Cert.KernelIdeal.sig) → Buf (Elt Ideal) ℓ) (ρ : Dev Cert.KernelIdeal.nD → PrngReg)
    (X : (⟨2, ![4096, 4096]⟩ : Shape).Idx → EReal) (W : (⟨2, ![4096, 8192]⟩ : Shape).Idx → EReal)
    (h : ∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c X
      ∧ m ((c.tc : Thread Cert.KernelIdeal.nD Cert.KernelIdeal.τ).loc Cert.KernelIdeal.main_arg1) = W) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v1) = Layout.block ⟨2, ![4096, 1024]⟩ ⟨2, ![4096, 8192]⟩ 1 8 c (whole X W)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run Cert.KernelIdeal.defs _ _).mono
    (fun _ hr c => ⟨((hr.1 c).1 (1 : Fin 2)).trans ((finalA_out m ρ c).trans (outAt_block m ρ X W (fun c => (h c).1) (fun c => (h c).2) c)),
      ((hr.1 c).1 (0 : Fin 2)).trans (finalA_x m ρ c), (hr.1 c).2⟩)
    (run_main (F := Ideal) m ρ)

theorem value_reference : Cert.algebraic_KernelIdeal_ReferenceIdeal := by
  intro m ρ m' ρ' _ hagree
  refine ⟨whole (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), kernel_value m ρ _ _ hagree, ?_⟩
  exact (θ_run Cert.ReferenceIdeal.defs _ _).mono (fun _ h => ⟨(h 0).1.trans (plain_eq _ _), (h 0).2⟩)
    (Cert.ReferenceIdeal.Value.run (F := Ideal) m' ρ')

theorem value_guarded : Cert.algebraic_KernelIdeal_GuardedIdeal_on_within (hOn_within := withinFacts) := by
  intro m ρ m' ρ' _ hagree
  refine ⟨whole (m' (((0 : Dev Cert.GuardedIdeal.nD).tc : Thread Cert.GuardedIdeal.nD Cert.GuardedIdeal.τ).loc Cert.GuardedIdeal.main_arg0))
    (m' (((0 : Dev Cert.GuardedIdeal.nD).tc : Thread Cert.GuardedIdeal.nD Cert.GuardedIdeal.τ).loc Cert.GuardedIdeal.main_arg1)), ?_, ?_⟩
  · exact (θ_run Cert.KernelIdeal.defs _ _).mono (fun _ h c => ⟨fun i _ => congrFun (h c).1 i, (h c).2⟩)
      (kernel_value m ρ _ _ hagree)
  · exact (θ_run Cert.GuardedIdeal.defs _ _).mono (fun _ h => ⟨fun i hi => (congrFun (h 0).1 i).trans (clipped_eq _ _ i hi), (h 0).2⟩)
      (Cert.GuardedIdeal.Value.run (F := Ideal) m' ρ')

theorem claim : Cert.Claim :=
  ⟨Cert.Kernel.Gen.facts, Cert.KernelIdeal.Gen.facts, Cert.ReferenceIdeal.Gen.facts, Cert.GuardedIdeal.Gen.facts, withinFacts,
    frame_kernel, frame_kernelIdeal, frame_reference, frame_guarded, trivial, value_reference, value_guarded⟩

end Cert.Proof

end
